-- ==== Defs.lean ====
def Pre_Kernel [hPre_is_swap_Kernel : Cert.Pre_is_swap_Kernel.Facts] (m : (ℓ : Loc Cert.Kernel.nD Cert.Kernel.τ Cert.Kernel.sig) → Buf (Elt Bits) ℓ) : Prop :=
  ∀ c : Dev Cert.Kernel.nD,
    (Cert.Pre_is_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_identity_Kernel [hPre_is_identity_Kernel : Cert.Pre_is_identity_Kernel.Facts] (m : (ℓ : Loc Cert.Kernel.nD Cert.Kernel.τ Cert.Kernel.sig) → Buf (Elt Bits) ℓ) : Prop :=
  ∀ c : Dev Cert.Kernel.nD,
    (Cert.Pre_is_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_swap_Kernel : Cert.Pre_is_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_identity_Kernel [hPre_is_identity_Kernel : Cert.Pre_is_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_swap_ReferenceIdeal [hPre_is_swap_ReferenceIdeal : Cert.Pre_is_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_identity_ReferenceIdeal [hPre_is_identity_ReferenceIdeal : Cert.Pre_is_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_is_swap_Kernel : Cert.Pre_is_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_identity_Kernel [hKernel : Cert.Kernel.Facts] [hPre_is_identity_Kernel : Cert.Pre_is_identity_Kernel.Facts] : Prop :=
  ∀ (m : (ℓ : Loc Cert.Kernel.nD Cert.Kernel.τ Cert.Kernel.sig) → Buf (Elt Bits) ℓ) (g : Dev Cert.Kernel.nD → PrngReg), Pre_Kernel_is_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_identity_Kernel [hKernelIdeal : Cert.KernelIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_swap_ReferenceIdeal [hReferenceIdeal : Cert.ReferenceIdeal.Facts] [hPre_is_swap_ReferenceIdeal : Cert.Pre_is_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_identity_ReferenceIdeal [hReferenceIdeal : Cert.ReferenceIdeal.Facts] [hPre_is_identity_ReferenceIdeal : Cert.Pre_is_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_identity_Kernel [hKernelIdeal : Cert.KernelIdeal.Facts] [hReferenceIdeal : Cert.ReferenceIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_identity_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_swap_Kernel : Cert.Pre_is_swap_Kernel.Facts) (hPre_is_identity_Kernel : Cert.Pre_is_identity_Kernel.Facts) (hPre_is_swap_ReferenceIdeal : Cert.Pre_is_swap_ReferenceIdeal.Facts) (hPre_is_identity_ReferenceIdeal : Cert.Pre_is_identity_ReferenceIdeal.Facts),
    quiescent_Kernel (hKernel := hKernel) (hPre_is_swap_Kernel := hPre_is_swap_Kernel)
    ∧ quiescent_Kernel_pre_is_identity_Kernel (hKernel := hKernel) (hPre_is_identity_Kernel := hPre_is_identity_Kernel)
    ∧ quiescent_KernelIdeal (hKernelIdeal := hKernelIdeal) (hPre_is_swap_Kernel := hPre_is_swap_Kernel)
    ∧ quiescent_KernelIdeal_pre_is_identity_Kernel (hKernelIdeal := hKernelIdeal) (hPre_is_identity_Kernel := hPre_is_identity_Kernel)
    ∧ quiescent_ReferenceIdeal (hReferenceIdeal := hReferenceIdeal)
    ∧ quiescent_ReferenceIdeal_pre_is_swap_ReferenceIdeal (hReferenceIdeal := hReferenceIdeal) (hPre_is_swap_ReferenceIdeal := hPre_is_swap_ReferenceIdeal)
    ∧ quiescent_ReferenceIdeal_pre_is_identity_ReferenceIdeal (hReferenceIdeal := hReferenceIdeal) (hPre_is_identity_ReferenceIdeal := hPre_is_identity_ReferenceIdeal)
    ∧ preserves_Kernel_KernelIdeal
    ∧ algebraic_KernelIdeal_ReferenceIdeal (hKernelIdeal := hKernelIdeal) (hReferenceIdeal := hReferenceIdeal) (hPre_is_swap_Kernel := hPre_is_swap_Kernel)
    ∧ algebraic_KernelIdeal_ReferenceIdeal_pre_is_identity_Kernel (hKernelIdeal := hKernelIdeal) (hReferenceIdeal := hReferenceIdeal) (hPre_is_identity_Kernel := hPre_is_identity_Kernel)
-- ==== Pre_is_identity_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_identity_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_is_swap_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_is_swap_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S16x64x1024 : Shape := ⟨3, ![16, 64, 1024]⟩
abbrev S2048x1024 : Shape := ⟨2, ![2048, 1024]⟩
abbrev S16 : Shape := ⟨1, ![16]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 3
  | .vmem => 5
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .vmem, ⟨0, _⟩ => ⟨S1x2048x1024, .f32⟩
  | .local _ .vmem, ⟨1, _⟩ => ⟨S16x64x1024, .bf16⟩
  | .local _ .vmem, ⟨2, _⟩ => ⟨S16x64x1024, .bf16⟩
  | .local _ .vmem, ⟨3, _⟩ => ⟨S16x64x1024, .bf16⟩
  | .local _ .vmem, ⟨4, _⟩ => ⟨S2048x1024, .f32⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) (v7 : BitVec 32) : Nat :=
  let c0_i32_5 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v15 : BitVec 32 := Scalar.muli v2 c2_i32_4
  let v16 : BitVec 32 := Scalar.addi c0_i32_5 v15
  let c1_i32_6 : BitVec 32 := 1#32
  let v17 : BitVec 32 := Scalar.muli v7 c1_i32_6
  let v18 : BitVec 32 := Scalar.addi v16 v17
  v18.toNat
def k0_cond2 (d0 : Dev nD) (v7 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 1 := Scalar.cmpi .ne v7 v5
  let v12 : BitVec 32 := Scalar.extui v11
  let c0_i32_2 : BitVec 32 := 0#32
  let v13 : BitVec 1 := Scalar.cmpi .ne v12 c0_i32_2
  v13

def k0_dev2 (d0 : Dev nD) : Nat :=
  let c0_i32_10 : BitVec 32 := 0#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_7 v2
  let c2_i32_9 : BitVec 32 := 2#32
  let v20 : BitVec 32 := Scalar.muli v19 c2_i32_9
  let v21 : BitVec 32 := Scalar.addi c0_i32_10 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_11 : BitVec 32 := 1#32
  let v22 : BitVec 32 := Scalar.muli v5 c1_i32_11
  let v23 : BitVec 32 := Scalar.addi v21 v22
  v23.toNat
def k0_off2 (d0 : Dev nD) (c0_i32_15 : BitVec 32) : Fin 3 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v24 : BitVec 32 := Scalar.muli v2 c1024_i32
  let v27 : BitVec 32 := Scalar.addi v24 c0_i32_15
  let v28 : Index := Scalar.indexCast v27
  let c0_16 : Index := 0#32
  ![0, v28.toNat, 0]
def k0_dev3 (d0 : Dev nD) (v7 : BitVec 32) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v35 : BitVec 32 := Scalar.muli v2 c2_i32_24
  let v36 : BitVec 32 := Scalar.addi c0_i32_25 v35
  let c1_i32_26 : BitVec 32 := 1#32
  let v37 : BitVec 32 := Scalar.muli v7 c1_i32_26
  let v38 : BitVec 32 := Scalar.addi v36 v37
  v38.toNat
def k0_dev4 (d0 : Dev nD) (v7 : BitVec 32) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v55 : BitVec 32 := Scalar.muli v2 c2_i32_39
  let v56 : BitVec 32 := Scalar.addi c0_i32_40 v55
  let c1_i32_41 : BitVec 32 := 1#32
  let v57 : BitVec 32 := Scalar.muli v7 c1_i32_41
  let v58 : BitVec 32 := Scalar.addi v56 v57
  v58.toNat
def k0_dev5 (d0 : Dev nD) (v7 : BitVec 32) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v75 : BitVec 32 := Scalar.muli v2 c2_i32_54
  let v76 : BitVec 32 := Scalar.addi c0_i32_55 v75
  let c1_i32_56 : BitVec 32 := 1#32
  let v77 : BitVec 32 := Scalar.muli v7 c1_i32_56
  let v78 : BitVec 32 := Scalar.addi v76 v77
  v78.toNat
def k0_dev6 (d0 : Dev nD) (v7 : BitVec 32) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v95 : BitVec 32 := Scalar.muli v2 c2_i32_68
  let v96 : BitVec 32 := Scalar.addi c0_i32_69 v95
  let c1_i32_70 : BitVec 32 := 1#32
  let v97 : BitVec 32 := Scalar.muli v7 c1_i32_70
  let v98 : BitVec 32 := Scalar.addi v96 v97
  v98.toNat
def k0_dev7 (d0 : Dev nD) (v7 : BitVec 32) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v115 : BitVec 32 := Scalar.muli v2 c2_i32_82
  let v116 : BitVec 32 := Scalar.addi c0_i32_83 v115
  let c1_i32_84 : BitVec 32 := 1#32
  let v117 : BitVec 32 := Scalar.muli v7 c1_i32_84
  let v118 : BitVec 32 := Scalar.addi v116 v117
  v118.toNat
def k0_dev8 (d0 : Dev nD) (v7 : BitVec 32) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v135 : BitVec 32 := Scalar.muli v2 c2_i32_96
  let v136 : BitVec 32 := Scalar.addi c0_i32_97 v135
  let c1_i32_98 : BitVec 32 := 1#32
  let v137 : BitVec 32 := Scalar.muli v7 c1_i32_98
  let v138 : BitVec 32 := Scalar.addi v136 v137
  v138.toNat
def k0_dev9 (d0 : Dev nD) (v7 : BitVec 32) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v155 : BitVec 32 := Scalar.muli v2 c2_i32_110
  let v156 : BitVec 32 := Scalar.addi c0_i32_111 v155
  let c1_i32_112 : BitVec 32 := 1#32
  let v157 : BitVec 32 := Scalar.muli v7 c1_i32_112
  let v158 : BitVec 32 := Scalar.addi v156 v157
  v158.toNat
def k0_dev10 (d0 : Dev nD) (v7 : BitVec 32) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v175 : BitVec 32 := Scalar.muli v2 c2_i32_124
  let v176 : BitVec 32 := Scalar.addi c0_i32_125 v175
  let c1_i32_126 : BitVec 32 := 1#32
  let v177 : BitVec 32 := Scalar.muli v7 c1_i32_126
  let v178 : BitVec 32 := Scalar.addi v176 v177
  v178.toNat
def k0_dev11 (d0 : Dev nD) (v7 : BitVec 32) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v195 : BitVec 32 := Scalar.muli v2 c2_i32_138
  let v196 : BitVec 32 := Scalar.addi c0_i32_139 v195
  let c1_i32_140 : BitVec 32 := 1#32
  let v197 : BitVec 32 := Scalar.muli v7 c1_i32_140
  let v198 : BitVec 32 := Scalar.addi v196 v197
  v198.toNat
def k0_dev12 (d0 : Dev nD) (v7 : BitVec 32) : Nat :=
  let c0_i32_153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_152 : BitVec 32 := 2#32
  let v215 : BitVec 32 := Scalar.muli v2 c2_i32_152
  let v216 : BitVec 32 := Scalar.addi c0_i32_153 v215
  let c1_i32_154 : BitVec 32 := 1#32
  let v217 : BitVec 32 := Scalar.muli v7 c1_i32_154
  let v218 : BitVec 32 := Scalar.addi v216 v217
  v218.toNat
def k0_dev13 (d0 : Dev nD) (v7 : BitVec 32) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v235 : BitVec 32 := Scalar.muli v2 c2_i32_166
  let v236 : BitVec 32 := Scalar.addi c0_i32_167 v235
  let c1_i32_168 : BitVec 32 := 1#32
  let v237 : BitVec 32 := Scalar.muli v7 c1_i32_168
  let v238 : BitVec 32 := Scalar.addi v236 v237
  v238.toNat
def k0_dev14 (d0 : Dev nD) (v7 : BitVec 32) : Nat :=
  let c0_i32_181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_180 : BitVec 32 := 2#32
  let v255 : BitVec 32 := Scalar.muli v2 c2_i32_180
  let v256 : BitVec 32 := Scalar.addi c0_i32_181 v255
  let c1_i32_182 : BitVec 32 := 1#32
  let v257 : BitVec 32 := Scalar.muli v7 c1_i32_182
  let v258 : BitVec 32 := Scalar.addi v256 v257
  v258.toNat
def k0_dev15 (d0 : Dev nD) (v7 : BitVec 32) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v275 : BitVec 32 := Scalar.muli v2 c2_i32_194
  let v276 : BitVec 32 := Scalar.addi c0_i32_195 v275
  let c1_i32_196 : BitVec 32 := 1#32
  let v277 : BitVec 32 := Scalar.muli v7 c1_i32_196
  let v278 : BitVec 32 := Scalar.addi v276 v277
  v278.toNat
def k0_dev16 (d0 : Dev nD) (v7 : BitVec 32) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v295 : BitVec 32 := Scalar.muli v2 c2_i32_208
  let v296 : BitVec 32 := Scalar.addi c0_i32_209 v295
  let c1_i32_210 : BitVec 32 := 1#32
  let v297 : BitVec 32 := Scalar.muli v7 c1_i32_210
  let v298 : BitVec 32 := Scalar.addi v296 v297
  v298.toNat
def k0_dev17 (d0 : Dev nD) (v7 : BitVec 32) : Nat :=
  let c0_i32_223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_222 : BitVec 32 := 2#32
  let v315 : BitVec 32 := Scalar.muli v2 c2_i32_222
  let v316 : BitVec 32 := Scalar.addi c0_i32_223 v315
  let c1_i32_224 : BitVec 32 := 1#32
  let v317 : BitVec 32 := Scalar.muli v7 c1_i32_224
  let v318 : BitVec 32 := Scalar.addi v316 v317
  v318.toNat
def k0_dev18 (d0 : Dev nD) (v7 : BitVec 32) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v335 : BitVec 32 := Scalar.muli v2 c2_i32_236
  let v336 : BitVec 32 := Scalar.addi c0_i32_237 v335
  let c1_i32_238 : BitVec 32 := 1#32
  let v337 : BitVec 32 := Scalar.muli v7 c1_i32_238
  let v338 : BitVec 32 := Scalar.addi v336 v337
  v338.toNat

def k0_chk1 (d0 : Dev nD) (v7 : BitVec 32) : Prop :=
  (∀ (k0_h2 : k0_cond2 d0 v7 = 1#1), (k0_dev1 d0 v7) < nD) ∧
  (∀ (k0_h2 : k0_cond2 d0 v7 = 1#1), (k0_dev3 d0 v7) < nD) ∧
  (∀ (k0_h2 : k0_cond2 d0 v7 = 1#1), (k0_dev4 d0 v7) < nD) ∧
  (∀ (k0_h2 : k0_cond2 d0 v7 = 1#1), (k0_dev5 d0 v7) < nD) ∧
  (∀ (k0_h2 : k0_cond2 d0 v7 = 1#1), (k0_dev6 d0 v7) < nD) ∧
  (∀ (k0_h2 : k0_cond2 d0 v7 = 1#1), (k0_dev7 d0 v7) < nD) ∧
  (∀ (k0_h2 : k0_cond2 d0 v7 = 1#1), (k0_dev8 d0 v7) < nD) ∧
  (∀ (k0_h2 : k0_cond2 d0 v7 = 1#1), (k0_dev9 d0 v7) < nD) ∧
  (∀ (k0_h2 : k0_cond2 d0 v7 = 1#1), (k0_dev10 d0 v7) < nD) ∧
  (∀ (k0_h2 : k0_cond2 d0 v7 = 1#1), (k0_dev11 d0 v7) < nD) ∧
  (∀ (k0_h2 : k0_cond2 d0 v7 = 1#1), (k0_dev12 d0 v7) < nD) ∧
  (∀ (k0_h2 : k0_cond2 d0 v7 = 1#1), (k0_dev13 d0 v7) < nD) ∧
  (∀ (k0_h2 : k0_cond2 d0 v7 = 1#1), (k0_dev14 d0 v7) < nD) ∧
  (∀ (k0_h2 : k0_cond2 d0 v7 = 1#1), (k0_dev15 d0 v7) < nD) ∧
  (∀ (k0_h2 : k0_cond2 d0 v7 = 1#1), (k0_dev16 d0 v7) < nD) ∧
  (∀ (k0_h2 : k0_cond2 d0 v7 = 1#1), (k0_dev17 d0 v7) < nD) ∧
  (∀ (k0_h2 : k0_cond2 d0 v7 = 1#1), (k0_dev18 d0 v7) < nD)
theorem k0_dev1_lt : ∀ (d0 : Dev nD) (v7 : BitVec 32) (k0_hw1 : k0_chk1 d0 v7), ∀ (k0_h2 : k0_cond2 d0 v7 = 1#1), (k0_dev1 d0 v7) < nD := fun d0 v7 k0_hw1 k0_h2 => k0_hw1.1 k0_h2
theorem k0_dev3_lt : ∀ (d0 : Dev nD) (v7 : BitVec 32) (k0_hw1 : k0_chk1 d0 v7), ∀ (k0_h2 : k0_cond2 d0 v7 = 1#1), (k0_dev3 d0 v7) < nD := fun d0 v7 k0_hw1 k0_h2 => k0_hw1.2.1 k0_h2
theorem k0_dev4_lt : ∀ (d0 : Dev nD) (v7 : BitVec 32) (k0_hw1 : k0_chk1 d0 v7), ∀ (k0_h2 : k0_cond2 d0 v7 = 1#1), (k0_dev4 d0 v7) < nD := fun d0 v7 k0_hw1 k0_h2 => k0_hw1.2.2.1 k0_h2
theorem k0_dev5_lt : ∀ (d0 : Dev nD) (v7 : BitVec 32) (k0_hw1 : k0_chk1 d0 v7), ∀ (k0_h2 : k0_cond2 d0 v7 = 1#1), (k0_dev5 d0 v7) < nD := fun d0 v7 k0_hw1 k0_h2 => k0_hw1.2.2.2.1 k0_h2
theorem k0_dev6_lt : ∀ (d0 : Dev nD) (v7 : BitVec 32) (k0_hw1 : k0_chk1 d0 v7), ∀ (k0_h2 : k0_cond2 d0 v7 = 1#1), (k0_dev6 d0 v7) < nD := fun d0 v7 k0_hw1 k0_h2 => k0_hw1.2.2.2.2.1 k0_h2
theorem k0_dev7_lt : ∀ (d0 : Dev nD) (v7 : BitVec 32) (k0_hw1 : k0_chk1 d0 v7), ∀ (k0_h2 : k0_cond2 d0 v7 = 1#1), (k0_dev7 d0 v7) < nD := fun d0 v7 k0_hw1 k0_h2 => k0_hw1.2.2.2.2.2.1 k0_h2
theorem k0_dev8_lt : ∀ (d0 : Dev nD) (v7 : BitVec 32) (k0_hw1 : k0_chk1 d0 v7), ∀ (k0_h2 : k0_cond2 d0 v7 = 1#1), (k0_dev8 d0 v7) < nD := fun d0 v7 k0_hw1 k0_h2 => k0_hw1.2.2.2.2.2.2.1 k0_h2
theorem k0_dev9_lt : ∀ (d0 : Dev nD) (v7 : BitVec 32) (k0_hw1 : k0_chk1 d0 v7), ∀ (k0_h2 : k0_cond2 d0 v7 = 1#1), (k0_dev9 d0 v7) < nD := fun d0 v7 k0_hw1 k0_h2 => k0_hw1.2.2.2.2.2.2.2.1 k0_h2
theorem k0_dev10_lt : ∀ (d0 : Dev nD) (v7 : BitVec 32) (k0_hw1 : k0_chk1 d0 v7), ∀ (k0_h2 : k0_cond2 d0 v7 = 1#1), (k0_dev10 d0 v7) < nD := fun d0 v7 k0_hw1 k0_h2 => k0_hw1.2.2.2.2.2.2.2.2.1 k0_h2
theorem k0_dev11_lt : ∀ (d0 : Dev nD) (v7 : BitVec 32) (k0_hw1 : k0_chk1 d0 v7), ∀ (k0_h2 : k0_cond2 d0 v7 = 1#1), (k0_dev11 d0 v7) < nD := fun d0 v7 k0_hw1 k0_h2 => k0_hw1.2.2.2.2.2.2.2.2.2.1 k0_h2
theorem k0_dev12_lt : ∀ (d0 : Dev nD) (v7 : BitVec 32) (k0_hw1 : k0_chk1 d0 v7), ∀ (k0_h2 : k0_cond2 d0 v7 = 1#1), (k0_dev12 d0 v7) < nD := fun d0 v7 k0_hw1 k0_h2 => k0_hw1.2.2.2.2.2.2.2.2.2.2.1 k0_h2
theorem k0_dev13_lt : ∀ (d0 : Dev nD) (v7 : BitVec 32) (k0_hw1 : k0_chk1 d0 v7), ∀ (k0_h2 : k0_cond2 d0 v7 = 1#1), (k0_dev13 d0 v7) < nD := fun d0 v7 k0_hw1 k0_h2 => k0_hw1.2.2.2.2.2.2.2.2.2.2.2.1 k0_h2
theorem k0_dev14_lt : ∀ (d0 : Dev nD) (v7 : BitVec 32) (k0_hw1 : k0_chk1 d0 v7), ∀ (k0_h2 : k0_cond2 d0 v7 = 1#1), (k0_dev14 d0 v7) < nD := fun d0 v7 k0_hw1 k0_h2 => k0_hw1.2.2.2.2.2.2.2.2.2.2.2.2.1 k0_h2
theorem k0_dev15_lt : ∀ (d0 : Dev nD) (v7 : BitVec 32) (k0_hw1 : k0_chk1 d0 v7), ∀ (k0_h2 : k0_cond2 d0 v7 = 1#1), (k0_dev15 d0 v7) < nD := fun d0 v7 k0_hw1 k0_h2 => k0_hw1.2.2.2.2.2.2.2.2.2.2.2.2.2.1 k0_h2
theorem k0_dev16_lt : ∀ (d0 : Dev nD) (v7 : BitVec 32) (k0_hw1 : k0_chk1 d0 v7), ∀ (k0_h2 : k0_cond2 d0 v7 = 1#1), (k0_dev16 d0 v7) < nD := fun d0 v7 k0_hw1 k0_h2 => k0_hw1.2.2.2.2.2.2.2.2.2.2.2.2.2.2.1 k0_h2
theorem k0_dev17_lt : ∀ (d0 : Dev nD) (v7 : BitVec 32) (k0_hw1 : k0_chk1 d0 v7), ∀ (k0_h2 : k0_cond2 d0 v7 = 1#1), (k0_dev17 d0 v7) < nD := fun d0 v7 k0_hw1 k0_h2 => k0_hw1.2.2.2.2.2.2.2.2.2.2.2.2.2.2.2.1 k0_h2
theorem k0_dev18_lt : ∀ (d0 : Dev nD) (v7 : BitVec 32) (k0_hw1 : k0_chk1 d0 v7), ∀ (k0_h2 : k0_cond2 d0 v7 = 1#1), (k0_dev18 d0 v7) < nD := fun d0 v7 k0_hw1 k0_h2 => k0_hw1.2.2.2.2.2.2.2.2.2.2.2.2.2.2.2.2 k0_h2

def k0_dev19 (d0 : Dev nD) : Nat :=
  let c0_i32_260 : BitVec 32 := 0#32
  let c1_i32_254 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v357 : BitVec 32 := Scalar.subi c1_i32_254 v2
  let c2_i32_259 : BitVec 32 := 2#32
  let v358 : BitVec 32 := Scalar.muli v357 c2_i32_259
  let v359 : BitVec 32 := Scalar.addi c0_i32_260 v358
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_261 : BitVec 32 := 1#32
  let v360 : BitVec 32 := Scalar.muli v5 c1_i32_261
  let v361 : BitVec 32 := Scalar.addi v359 v360
  v361.toNat
def k0_off3 (d0 : Dev nD) (c0_i32_266 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v24 : BitVec 32 := Scalar.muli v2 c1024_i32
  let v370 : BitVec 32 := Scalar.addi v24 c0_i32_266
  let v374 : Index := Scalar.indexCast v370
  let c0_270 : Index := 0#32
  ![v374.toNat, 0]
def k0_off4 (d0 : Dev nD) (c0_i32_266 : BitVec 32) : Fin 3 → Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v24 : BitVec 32 := Scalar.muli v2 c1024_i32
  let v370 : BitVec 32 := Scalar.addi v24 c0_i32_266
  let c0_i32_273 : BitVec 32 := 0#32
  ![0, v370.toNat, 0]
def k0_off5 (d0 : Dev nD) (c0_i32_266 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v24 : BitVec 32 := Scalar.muli v2 c1024_i32
  let v370 : BitVec 32 := Scalar.addi v24 c0_i32_266
  let c0_i32_274 : BitVec 32 := 0#32
  ![v370.toNat, 0]
def k0_dev20 (d0 : Dev nD) : Nat :=
  let c0_i32_292 : BitVec 32 := 0#32
  let c1_i32_286 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v393 : BitVec 32 := Scalar.subi c1_i32_286 v2
  let c2_i32_291 : BitVec 32 := 2#32
  let v394 : BitVec 32 := Scalar.muli v393 c2_i32_291
  let v395 : BitVec 32 := Scalar.addi c0_i32_292 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_293 : BitVec 32 := 1#32
  let v396 : BitVec 32 := Scalar.muli v5 c1_i32_293
  let v397 : BitVec 32 := Scalar.addi v395 v396
  v397.toNat
def k0_dev21 (d0 : Dev nD) : Nat :=
  let c0_i32_324 : BitVec 32 := 0#32
  let c1_i32_318 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v429 : BitVec 32 := Scalar.subi c1_i32_318 v2
  let c2_i32_323 : BitVec 32 := 2#32
  let v430 : BitVec 32 := Scalar.muli v429 c2_i32_323
  let v431 : BitVec 32 := Scalar.addi c0_i32_324 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_325 : BitVec 32 := 1#32
  let v432 : BitVec 32 := Scalar.muli v5 c1_i32_325
  let v433 : BitVec 32 := Scalar.addi v431 v432
  v433.toNat
def k0_off6 (d0 : Dev nD) (c0_i32_350 : BitVec 32) : Fin 2 → Nat :=
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v25 : BitVec 32 := Scalar.subi c1_i32_13 v2
  let c1024_i32_14 : BitVec 32 := 1024#32
  let v26 : BitVec 32 := Scalar.muli v25 c1024_i32_14
  let v465 : BitVec 32 := Scalar.addi v26 c0_i32_350
  let v469 : Index := Scalar.indexCast v465
  let c0_354 : Index := 0#32
  ![v469.toNat, 0]
def k0_off7 (d0 : Dev nD) (c0_i32_350 : BitVec 32) : Fin 3 → Nat :=
  let c0_i32_355 : BitVec 32 := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v25 : BitVec 32 := Scalar.subi c1_i32_13 v2
  let c1024_i32_14 : BitVec 32 := 1024#32
  let v26 : BitVec 32 := Scalar.muli v25 c1024_i32_14
  let v465 : BitVec 32 := Scalar.addi v26 c0_i32_350
  let c0_i32_357 : BitVec 32 := 0#32
  ![0, v465.toNat, 0]
def k0_off8 (d0 : Dev nD) (c0_i32_350 : BitVec 32) : Fin 2 → Nat :=
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v25 : BitVec 32 := Scalar.subi c1_i32_13 v2
  let c1024_i32_14 : BitVec 32 := 1024#32
  let v26 : BitVec 32 := Scalar.muli v25 c1024_i32_14
  let v465 : BitVec 32 := Scalar.addi v26 c0_i32_350
  let c0_i32_358 : BitVec 32 := 0#32
  ![v465.toNat, 0]
def k0_dev22 (d0 : Dev nD) : Nat :=
  let c0_i32_376 : BitVec 32 := 0#32
  let c1_i32_370 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v488 : BitVec 32 := Scalar.subi c1_i32_370 v2
  let c2_i32_375 : BitVec 32 := 2#32
  let v489 : BitVec 32 := Scalar.muli v488 c2_i32_375
  let v490 : BitVec 32 := Scalar.addi c0_i32_376 v489
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v491 : BitVec 32 := Scalar.muli v5 c1_i32_377
  let v492 : BitVec 32 := Scalar.addi v490 v491
  v492.toNat
def k0_dev23 (d0 : Dev nD) : Nat :=
  let c0_i32_428 : BitVec 32 := 0#32
  let c1_i32_422 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v547 : BitVec 32 := Scalar.subi c1_i32_422 v2
  let c2_i32_427 : BitVec 32 := 2#32
  let v548 : BitVec 32 := Scalar.muli v547 c2_i32_427
  let v549 : BitVec 32 := Scalar.addi c0_i32_428 v548
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_429 : BitVec 32 := 1#32
  let v550 : BitVec 32 := Scalar.muli v5 c1_i32_429
  let v551 : BitVec 32 := Scalar.addi v549 v550
  v551.toNat
def k0_dev24 (d0 : Dev nD) : Nat :=
  let c0_i32_480 : BitVec 32 := 0#32
  let c1_i32_474 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v606 : BitVec 32 := Scalar.subi c1_i32_474 v2
  let c2_i32_479 : BitVec 32 := 2#32
  let v607 : BitVec 32 := Scalar.muli v606 c2_i32_479
  let v608 : BitVec 32 := Scalar.addi c0_i32_480 v607
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_481 : BitVec 32 := 1#32
  let v609 : BitVec 32 := Scalar.muli v5 c1_i32_481
  let v610 : BitVec 32 := Scalar.addi v608 v609
  v610.toNat
def k0_dev25 (d0 : Dev nD) : Nat :=
  let c0_i32_532 : BitVec 32 := 0#32
  let c1_i32_526 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v665 : BitVec 32 := Scalar.subi c1_i32_526 v2
  let c2_i32_531 : BitVec 32 := 2#32
  let v666 : BitVec 32 := Scalar.muli v665 c2_i32_531
  let v667 : BitVec 32 := Scalar.addi c0_i32_532 v666
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_533 : BitVec 32 := 1#32
  let v668 : BitVec 32 := Scalar.muli v5 c1_i32_533
  let v669 : BitVec 32 := Scalar.addi v667 v668
  v669.toNat
def k0_dev26 (d0 : Dev nD) : Nat :=
  let c0_i32_584 : BitVec 32 := 0#32
  let c1_i32_578 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v724 : BitVec 32 := Scalar.subi c1_i32_578 v2
  let c2_i32_583 : BitVec 32 := 2#32
  let v725 : BitVec 32 := Scalar.muli v724 c2_i32_583
  let v726 : BitVec 32 := Scalar.addi c0_i32_584 v725
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_585 : BitVec 32 := 1#32
  let v727 : BitVec 32 := Scalar.muli v5 c1_i32_585
  let v728 : BitVec 32 := Scalar.addi v726 v727
  v728.toNat
def k0_dev27 (d0 : Dev nD) : Nat :=
  let c0_i32_636 : BitVec 32 := 0#32
  let c1_i32_630 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v783 : BitVec 32 := Scalar.subi c1_i32_630 v2
  let c2_i32_635 : BitVec 32 := 2#32
  let v784 : BitVec 32 := Scalar.muli v783 c2_i32_635
  let v785 : BitVec 32 := Scalar.addi c0_i32_636 v784
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_637 : BitVec 32 := 1#32
  let v786 : BitVec 32 := Scalar.muli v5 c1_i32_637
  let v787 : BitVec 32 := Scalar.addi v785 v786
  v787.toNat
def k0_dev28 (d0 : Dev nD) : Nat :=
  let c0_i32_688 : BitVec 32 := 0#32
  let c1_i32_682 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v842 : BitVec 32 := Scalar.subi c1_i32_682 v2
  let c2_i32_687 : BitVec 32 := 2#32
  let v843 : BitVec 32 := Scalar.muli v842 c2_i32_687
  let v844 : BitVec 32 := Scalar.addi c0_i32_688 v843
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_689 : BitVec 32 := 1#32
  let v845 : BitVec 32 := Scalar.muli v5 c1_i32_689
  let v846 : BitVec 32 := Scalar.addi v844 v845
  v846.toNat
def k0_dev29 (d0 : Dev nD) : Nat :=
  let c0_i32_740 : BitVec 32 := 0#32
  let c1_i32_734 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v901 : BitVec 32 := Scalar.subi c1_i32_734 v2
  let c2_i32_739 : BitVec 32 := 2#32
  let v902 : BitVec 32 := Scalar.muli v901 c2_i32_739
  let v903 : BitVec 32 := Scalar.addi c0_i32_740 v902
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_741 : BitVec 32 := 1#32
  let v904 : BitVec 32 := Scalar.muli v5 c1_i32_741
  let v905 : BitVec 32 := Scalar.addi v903 v904
  v905.toNat
def k0_dev30 (d0 : Dev nD) : Nat :=
  let c0_i32_792 : BitVec 32 := 0#32
  let c1_i32_786 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v960 : BitVec 32 := Scalar.subi c1_i32_786 v2
  let c2_i32_791 : BitVec 32 := 2#32
  let v961 : BitVec 32 := Scalar.muli v960 c2_i32_791
  let v962 : BitVec 32 := Scalar.addi c0_i32_792 v961
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_793 : BitVec 32 := 1#32
  let v963 : BitVec 32 := Scalar.muli v5 c1_i32_793
  let v964 : BitVec 32 := Scalar.addi v962 v963
  v964.toNat
def k0_dev31 (d0 : Dev nD) : Nat :=
  let c0_i32_844 : BitVec 32 := 0#32
  let c1_i32_838 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1019 : BitVec 32 := Scalar.subi c1_i32_838 v2
  let c2_i32_843 : BitVec 32 := 2#32
  let v1020 : BitVec 32 := Scalar.muli v1019 c2_i32_843
  let v1021 : BitVec 32 := Scalar.addi c0_i32_844 v1020
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_845 : BitVec 32 := 1#32
  let v1022 : BitVec 32 := Scalar.muli v5 c1_i32_845
  let v1023 : BitVec 32 := Scalar.addi v1021 v1022
  v1023.toNat
def k0_dev32 (d0 : Dev nD) : Nat :=
  let c0_i32_896 : BitVec 32 := 0#32
  let c1_i32_890 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1078 : BitVec 32 := Scalar.subi c1_i32_890 v2
  let c2_i32_895 : BitVec 32 := 2#32
  let v1079 : BitVec 32 := Scalar.muli v1078 c2_i32_895
  let v1080 : BitVec 32 := Scalar.addi c0_i32_896 v1079
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_897 : BitVec 32 := 1#32
  let v1081 : BitVec 32 := Scalar.muli v5 c1_i32_897
  let v1082 : BitVec 32 := Scalar.addi v1080 v1081
  v1082.toNat
def k0_dev33 (d0 : Dev nD) : Nat :=
  let c0_i32_948 : BitVec 32 := 0#32
  let c1_i32_942 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1137 : BitVec 32 := Scalar.subi c1_i32_942 v2
  let c2_i32_947 : BitVec 32 := 2#32
  let v1138 : BitVec 32 := Scalar.muli v1137 c2_i32_947
  let v1139 : BitVec 32 := Scalar.addi c0_i32_948 v1138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_949 : BitVec 32 := 1#32
  let v1140 : BitVec 32 := Scalar.muli v5 c1_i32_949
  let v1141 : BitVec 32 := Scalar.addi v1139 v1140
  v1141.toNat
def k0_dev34 (d0 : Dev nD) : Nat :=
  let c0_i32_1000 : BitVec 32 := 0#32
  let c1_i32_994 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1196 : BitVec 32 := Scalar.subi c1_i32_994 v2
  let c2_i32_999 : BitVec 32 := 2#32
  let v1197 : BitVec 32 := Scalar.muli v1196 c2_i32_999
  let v1198 : BitVec 32 := Scalar.addi c0_i32_1000 v1197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1001 : BitVec 32 := 1#32
  let v1199 : BitVec 32 := Scalar.muli v5 c1_i32_1001
  let v1200 : BitVec 32 := Scalar.addi v1198 v1199
  v1200.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Canon.lean ====
module

public import proofs.«01_k».proof.Proof.Gen.KernelIdeal
public import proofs.«01_k».proof.Proof.Gen.KernelIdeal.Skeleton
public import proofs.«01_k».proof.Proof.Gen.KernelIdeal.Launch

/-! The kernel's body written once more with the chunk number as a variable.

The printed body is the unrolled program; here every one of its operations is a step with a symbolic
chunk number, the printed body is the list of these steps (`swap_eq`), and the rest of the proof
reasons about one step at a time. -/

@[expose] public section

noncomputable section

namespace Cert.KernelIdeal.Swap

open Idealize.ShloMosaic Idealize.SL.Sem
open Cert.KernelIdeal.Gen

variable {F : FTy → Type} [FloatOps F]

/-! ## The buffers, their slots, and the semaphores of a chunk -/

/-- The permutation, as the kernel holds it. -/
abbrev piM : Memref sig .tc .smem S2 .i32 := Memref.whole cc0_stg0_0

/-- The block of `x`, as the kernel holds it. -/
abbrev xM : Memref sig .tc .vmem S1x2048x1024 .f32 := Memref.whole cc0_stg1_0

/-- The result. -/
abbrev outM : Memref sig .tc .hbm S1x2048x1024 .f32 := Memref.whole main_v1

/-- The buffer of chunks rounded to be sent. -/
abbrev ysM : Memref sig .tc .vmem S16x64x1024 .bf16 := Memref.whole cc0_scratch0

/-- The buffer of chunks received from the other block. -/
abbrev yrM : Memref sig .tc .vmem S16x64x1024 .bf16 := Memref.whole cc0_scratch1

/-- The buffer of chunks received from the neighbour that passes them on. -/
abbrev xrM : Memref sig .tc .vmem S16x64x1024 .bf16 := Memref.whole cc0_scratch2

/-- The buffer of rows widened for the result. -/
abbrev obM : Memref sig .tc .vmem S2048x1024 .f32 := Memref.whole cc0_scratch3

/-- Slot `n` of a buffer of sixteen chunks lies inside it. -/
theorem slot_inb (n : Fin 16) :
    ∀ a, (![n.val, 0, 0] : Fin 3 → Nat) a + S1x64x1024.size a ≤ S16x64x1024.size a := by
  revert n; decide

/-- Semaphore `n` of a row of sixteen lies inside it. -/
theorem sem_inb (n : Fin 16) : ∀ a, (![n.val] : Fin 1 → Nat) a + S1.size a ≤ S16.size a := by
  revert n; decide

/-- The slot of chunk `n`, as the kernel's stores and loads address it. -/
abbrev slotRect (n : Fin 16) : Rect S16x64x1024 :=
  Rect.unit (s := S16x64x1024) ![n.val, 0, 0] S1x64x1024.size (slot_inb n)

/-- A slot is made of whole packed rows. -/
theorem slot_packed (n : Fin 16) : (slotRect n).PackedRows (EltTy.packing .bf16) := by
  revert n; decide

/-- A slot is made of whole words. -/
theorem slot_words (n : Fin 16) : (slotRect n).WholeWords (EltTy.packing .bf16) := by
  revert n; decide

/-- The slot of chunk `n` of a buffer of sixteen chunks, as the copies address it. -/
abbrev slotOf (M : Memref sig .tc .vmem S16x64x1024 .bf16) (n : Fin 16) :
    Memref sig .tc .vmem S64x1024 .bf16 :=
  (M.slice (slotRect n) (fun _ => rfl)).squeeze S64x1024 squeezes_S1x64x1024_S64x1024

/-- Semaphore `n` of a row of sixteen. -/
abbrev semOf (A : DmaSems sig S16) (n : Fin 16) : DmaSem sig :=
  ((A.slice (Rect.unit (s := S16) ![n.val] S1.size (sem_inb n))).squeeze S_ squeezes_S1_S_).sem

/-- The row offset of chunk `n` in its half, as a word. -/
abbrev wd (n : Fin 16) : BitVec 32 := BitVec.ofNat 32 (64 * n.val)

/-- The rows of the output buffer that this half's chunk `n` fills. -/
abbrev obA (d : Dev nD) (n : Fin 16) : Memref sig .tc .vmem S64x1024 .f32 :=
  obM.slice (Rect.unit (s := S2048x1024) (k0_off5 d (wd n)) S64x1024.size (k0_off5_inb d n))
    (fun _ => rfl)

/-- The rows of the output buffer that the other half's chunk `n` fills. -/
abbrev obB (d : Dev nD) (n : Fin 16) : Memref sig .tc .vmem S64x1024 .f32 :=
  obM.slice (Rect.unit (s := S2048x1024) (k0_off8 d (wd n)) S64x1024.size (k0_off8_inb d n))
    (fun _ => rfl)

/-- The rows of the result that this half's chunk `n` fills. -/
abbrev outA (d : Dev nD) (n : Fin 16) : Memref sig .tc .hbm S64x1024 .f32 :=
  (outM.slice (Rect.unit (s := S1x2048x1024) (k0_off4 d (wd n)) S1x64x1024.size
    (k0_off4_inb d n)) (fun _ => rfl)).squeeze S64x1024 squeezes_S1x64x1024_S64x1024

/-- The rows of the result that the other half's chunk `n` fills. -/
abbrev outB (d : Dev nD) (n : Fin 16) : Memref sig .tc .hbm S64x1024 .f32 :=
  (outM.slice (Rect.unit (s := S1x2048x1024) (k0_off7 d (wd n)) S1x64x1024.size
    (k0_off7_inb d n)) (fun _ => rfl)).squeeze S64x1024 squeezes_S1x64x1024_S64x1024

/-- The rows of the device's block of `x` that its chunk `n` is read from. -/
abbrev xRect (d : Dev nD) (n : Fin 16) : Rect S1x2048x1024 :=
  Rect.unit (s := S1x2048x1024) (k0_off2 d (wd n)) S1x64x1024.size (k0_off2_inb d n)

/-- The rows of the output buffer that a store of this half's chunk `n` addresses. -/
abbrev obRectA (d : Dev nD) (n : Fin 16) : Rect S2048x1024 :=
  Rect.unit (s := S2048x1024) (k0_off3 d (wd n)) S64x1024.size (k0_off3_inb d n)

/-- The rows of the output buffer that a store of the other half's chunk `n` addresses. -/
abbrev obRectB (d : Dev nD) (n : Fin 16) : Rect S2048x1024 :=
  Rect.unit (s := S2048x1024) (k0_off6 d (wd n)) S64x1024.size (k0_off6_inb d n)

/-- What a chunk of `x` is stored as before it is sent. -/
def enc (v : Vec F S1x64x1024 .f32) : FVec F S1x64x1024 .bf16 :=
  shapeCast S1x64x1024 (truncf .bf16 (shapeCast S64x1024 v shapeCasts_S1x64x1024_S64x1024 :
    FVec F S64x1024 .f32) bitsLt_bf16_f32) shapeCasts_S64x1024_S1x64x1024

/-- What a received chunk is stored as in the output buffer. -/
def dec (v : FVec F S1x64x1024 .bf16) : FVec F S64x1024 .f32 :=
  shapeCast S64x1024 (extf .f32 (shapeCast S64x1024 v shapeCasts_S1x64x1024_S64x1024 :
    FVec F S64x1024 .bf16) bitsLt_bf16_f32) shapeCasts_S64x1024_S64x1024

/-! ## The steps -/

/-- The program a step is written in. -/
abbrev P (F : FTy → Type) := Prog (TpuEff nD τ sig (Elt F) Λ₀ .tc) PUnit

/-- Copy a slot to the same slot of a buffer of device `e`. -/
abbrev sendTo (src dst : Memref sig .tc .vmem S16x64x1024 .bf16) (hs : src.IsWhole)
    (hd : dst.IsWhole) (A B : DmaSems sig S16) (e : Dev nD) (n : Fin 16) : P F :=
  Prog.lift (.enqueueDma (slotOf src n) (.remote (Dev.tc e) (slotOf dst n) (.dma (semOf A n)))
    (.dma (semOf B n)) ((hs.wordExact_slice rfl _ (slot_words n)).reshape _ _)
    ((hd.wordExact_slice rfl _ (slot_words n)).reshape _ _) ⟨⟨rfl, Or.inl rfl⟩, trivial⟩)

/-- Wait for a copy of slot `n`. -/
abbrev waitSlot (src dst : Memref sig .tc .vmem S16x64x1024 .bf16) (hs : src.IsWhole)
    (hd : dst.IsWhole) (A : DmaSems sig S16) (n : Fin 16) : P F :=
  Prog.lift (.waitDma2 (semOf A n) (slotOf src n) (slotOf dst n)
    ((hs.wordExact_slice rfl _ (slot_words n)).reshape _ _)
    ((hd.wordExact_slice rfl _ (slot_words n)).reshape _ _))

/-- The kinds of steps, each for a chunk: send it to the partner holding the other block; receive the
partner's, pass it on, and store it; receive the passed-on one and store it; and the waits. -/
inductive Kind | ys | yr | xr | oy | ox | wys | wxs
  deriving DecidableEq

/-- Read the chunk, round it, put it in its slot and send it to device `e`. -/
def runYs (d e : Dev nD) (n : Fin 16) : P F := do
  let v : Vec F S1x64x1024 .f32 ← Prog.lift (.load xM (xRect d n).toLoadRect (View.loadsAt_vmem h_S1x64x1024))
  let _ ← Prog.lift (.load ysM (slotRect n).toLoadRect (View.loadsAt_vmem h_S1x64x1024))
  Prog.lift (.store ysM (slotRect n) (enc v) Finset.univ
    (View.stores_vmem h_S1x64x1024 ((Memref.isWhole_whole _).storeExact_slice rfl _ (slot_packed n))
      (fun _ => rfl)) (.inl rfl))
  sendTo ysM yrM (Memref.isWhole_whole _) (Memref.isWhole_whole _) cc0_scratch4 cc0_scratch5 e n

/-- Receive the partner's chunk, pass it on to device `e`, and write it to its rows. -/
def runYr (d e : Dev nD) (n : Fin 16) : P F := do
  waitSlot ysM yrM (Memref.isWhole_whole _) (Memref.isWhole_whole _) cc0_scratch5 n
  sendTo yrM xrM (Memref.isWhole_whole _) (Memref.isWhole_whole _) cc0_scratch6 cc0_scratch7 e n
  let v : Vec F S1x64x1024 .bf16 ← Prog.lift (.load yrM (slotRect n).toLoadRect (View.loadsAt_vmem h_S1x64x1024))
  let _ ← Prog.lift (.load obM (obRectA d n).toLoadRect (View.loadsAt_vmem h_S64x1024))
  Prog.lift (.store obM (obRectA d n) (dec v) Finset.univ
    (View.stores_vmem_bits_univ h_S64x1024 rfl) (.inl rfl))
  Prog.lift (.enqueueDma (obA d n) (.here (outA d n)) (.dma (semOf cc0_scratch8 n))
    (View.wordExact_bits rfl) ((View.wordExact_bits rfl).reshape _ _) ⟨Or.inl rfl, trivial⟩)

/-- Receive a passed-on chunk and write it to its rows. -/
def runXr (d : Dev nD) (n : Fin 16) : P F := do
  waitSlot yrM xrM (Memref.isWhole_whole _) (Memref.isWhole_whole _) cc0_scratch7 n
  let v : Vec F S1x64x1024 .bf16 ← Prog.lift (.load xrM (slotRect n).toLoadRect (View.loadsAt_vmem h_S1x64x1024))
  let _ ← Prog.lift (.load obM (obRectB d n).toLoadRect (View.loadsAt_vmem h_S64x1024))
  Prog.lift (.store obM (obRectB d n) (dec v) Finset.univ
    (View.stores_vmem_bits_univ h_S64x1024 rfl) (.inl rfl))
  Prog.lift (.enqueueDma (obB d n) (.here (outB d n)) (.dma (semOf cc0_scratch9 n))
    (View.wordExact_bits rfl) ((View.wordExact_bits rfl).reshape _ _) ⟨Or.inl rfl, trivial⟩)

/-- The step of kind `k` for chunk `n`, on device `d`, whose partners are `e` (the other block) and
`e'` (the other half of the rows). -/
def run (d e e' : Dev nD) : Kind × Fin 16 → P F
  | (.ys, n) => runYs d e n
  | (.yr, n) => runYr d e' n
  | (.xr, n) => runXr d n
  | (.oy, n) => Prog.lift (.waitDma2 (semOf cc0_scratch8 n) (obA d n) (outA d n)
      (View.wordExact_bits rfl) ((View.wordExact_bits rfl).reshape _ _))
  | (.ox, n) => Prog.lift (.waitDma2 (semOf cc0_scratch9 n) (obB d n) (outB d n)
      (View.wordExact_bits rfl) ((View.wordExact_bits rfl).reshape _ _))
  | (.wys, n) => waitSlot yrM ysM (Memref.isWhole_whole _) (Memref.isWhole_whole _) cc0_scratch4 n
  | (.wxs, n) => waitSlot xrM yrM (Memref.isWhole_whole _) (Memref.isWhole_whole _) cc0_scratch6 n

/-- A list of steps, one after another. -/
def runs (d e e' : Dev nD) (l : List (Kind × Fin 16)) : P F :=
  l.foldr (fun a p => run d e e' a >>= fun _ => p) (Prog.ret ⟨⟩)

/-! ## The order of the steps -/

/-- The chunks in order. -/
abbrev chunks : List (Fin 16) := [0, 1, 2, 3, 4, 5, 6, 7, 8, 9, 10, 11, 12, 13, 14, 15]

/-- The two receptions interleaved, the passed-on one two chunks behind: `true` for the passed-on. -/
abbrev order : List (Bool × Fin 16) :=
  [(false, 0), (false, 1), (false, 2), (true, 0), (false, 3), (true, 1), (false, 4), (true, 2),
   (false, 5), (true, 3), (false, 6), (true, 4), (false, 7), (true, 5), (false, 8), (true, 6),
   (false, 9), (true, 7), (false, 10), (true, 8), (false, 11), (true, 9), (false, 12), (true, 10),
   (false, 13), (true, 11), (false, 14), (true, 12), (false, 15), (true, 13), (true, 14), (true, 15)]

/-- The two closing waits of each chunk, chunk after chunk. -/
abbrev closing : List (Bool × Fin 16) :=
  chunks.flatMap fun n => [(false, n), (true, n)]

/-- All the steps, in the order of the body. -/
def steps : List (Kind × Fin 16) :=
  chunks.map (fun n => (Kind.ys, n)) ++
  order.map (fun a => (cond a.1 Kind.xr Kind.yr, a.2)) ++
  order.map (fun a => (cond a.1 Kind.ox Kind.oy, a.2)) ++
  closing.map (fun a => (cond a.1 Kind.wxs Kind.wys, a.2))

/-- The body in the swapping case: raise both partners' barriers, wait for both, then the steps. -/
def swapBody (d : Dev nD) (e e' : Dev nD) : P F := do
  semSignalWord e (SemArray.scalar (sig.barrier 0 rfl) : Sems sig S_).sem 1#32
  semSignalWord e' (SemArray.scalar (sig.barrier 0 rfl) : Sems sig S_).sem 1#32
  semWaitWord (SemArray.scalar (sig.barrier 0 rfl) : Sems sig S_).sem 2#32
  runs d e e' steps

/-- Two programs that ask for the same effect and go on alike are equal. -/
theorem op_step.{v} {E : Type → Type v} {α β : Type} {p q : Prog E α} {e : E β} {k k' : β → Prog E α}
    (hp : p = .op e k) (hq : q = .op e k') (h : ∀ x, k x = k' x) : p = q := by
  rw [hp, hq, funext h]

end Cert.KernelIdeal.Swap
-- ==== Proof.Contents.lean ====
module

public import proofs.«01_k».proof.Proof.Canon
public import Idealize.ShloMosaic.Lib.Pointwise.Index

/-! What the buffers hold: the chunks a device sends, the rows it writes, and what each store and copy
leaves in its slot, element by element. -/

@[expose] public section

noncomputable section

namespace Cert.KernelIdeal.Swap

open Idealize.ShloMosaic Idealize.SL.Sem
open Cert.KernelIdeal.Gen

variable {F : FTy → Type} [FloatOps F]

/-! ## The mesh -/

set_option backward.proofsInPublic true in
/-- The device holding the other block of the same rows. -/
def yp (d : Dev nD) : Dev nD := ⟨2 * (d.val / 2) + (1 - d.val % 2), by have : d.val < 4 := d.isLt; show _ < 4; omega⟩

set_option backward.proofsInPublic true in
/-- The device holding the same block and sending the other half of the rows. -/
def xp (d : Dev nD) : Dev nD := ⟨2 * (1 - d.val / 2) + d.val % 2, by have : d.val < 4 := d.isLt; show _ < 4; omega⟩

/-- The partner of the partner over `y` is the device itself. -/
theorem yp_yp (d : Dev nD) : yp (yp d) = d := by revert d; decide

/-- The partner of the partner over `x` is the device itself. -/
theorem xp_xp (d : Dev nD) : xp (xp d) = d := by revert d; decide

/-- The two partners differ. -/
theorem yp_ne_xp (d : Dev nD) : yp d ≠ xp d := by revert d; decide

/-- The two ways of going to the opposite corner agree. -/
theorem yp_xp (d : Dev nD) : yp (xp d) = xp (yp d) := by revert d; decide

/-- Which half of the rows a device sends. -/
abbrev half (d : Dev nD) : Nat := d.val / 2

/-- There are two halves. -/
theorem half_lt (d : Dev nD) : half d < 2 := by revert d; decide

/-- The partner over `y` has the same half. -/
theorem half_yp (d : Dev nD) : half (yp d) = half d := by revert d; decide

/-- The partner over `x` has the other half. -/
theorem half_xp (d : Dev nD) : half (xp d) = 1 - half d := by revert d; decide

/-- The word of the permutation that device `d` reads when the two blocks swap: the other block. -/
def other (d : Dev nD) : BitVec 32 := BitVec.ofNat 32 (1 - d.val % 2)

/-- Every device number computed from the other block's position is a device. -/
theorem other_chk (d : Dev nD) : k0_chk1 d (other d) := by
  have : ∀ d : Dev nD, k0_dev1 d (other d) < nD := by decide +kernel
  exact ⟨fun _ => this d, fun _ => this d, fun _ => this d, fun _ => this d, fun _ => this d,
    fun _ => this d, fun _ => this d, fun _ => this d, fun _ => this d, fun _ => this d,
    fun _ => this d, fun _ => this d, fun _ => this d, fun _ => this d, fun _ => this d,
    fun _ => this d, fun _ => this d⟩

/-- With the other block's position the kernel takes the branch of the exchange. -/
theorem other_cond (d : Dev nD) : k0_cond2 d (other d) = 1#1 := by revert d; decide +kernel

/-- The device the kernel sends to is the partner over `y`. -/
theorem dev1_eq (d : Dev nD) : k0_dev1 d (other d) = (yp d).val := by revert d; decide +kernel

/-- The device the kernel passes chunks on to is the partner over `x`. -/
theorem dev2_eq (d : Dev nD) : k0_dev2 d = (xp d).val := by revert d; decide +kernel

/-! ## Where the chunks lie -/

/-- Where chunk `n` is read in the block of `x`. -/
theorem off2_eq (d : Dev nD) (n : Fin 16) : k0_off2 d (wd n) = ![0, 1024 * half d + 64 * n.val, 0] := by
  revert d n; decide +kernel

/-- Where this half's chunk `n` is stored in the output buffer. -/
theorem off3_eq (d : Dev nD) (n : Fin 16) : k0_off3 d (wd n) = ![1024 * half d + 64 * n.val, 0] := by
  revert d n; decide +kernel

/-- Where this half's chunk `n` is copied in the result. -/
theorem off4_eq (d : Dev nD) (n : Fin 16) : k0_off4 d (wd n) = ![0, 1024 * half d + 64 * n.val, 0] := by
  revert d n; decide +kernel

/-- Where the other half's chunk `n` is stored in the output buffer. -/
theorem off6_eq (d : Dev nD) (n : Fin 16) : k0_off6 d (wd n) = ![1024 * (1 - half d) + 64 * n.val, 0] := by
  revert d n; decide +kernel

/-- Where the other half's chunk `n` is copied in the result. -/
theorem off7_eq (d : Dev nD) (n : Fin 16) : k0_off7 d (wd n) = ![0, 1024 * (1 - half d) + 64 * n.val, 0] := by
  revert d n; decide +kernel

/-! ## Contents -/

/-- What a chunk element becomes on the way: rounded to the sent type and widened again. -/
def thru (a : Elt F .f32) : Elt F .f32 :=
  (FloatOps.extf .f32 bitsLt_bf16_f32 (FloatOps.truncf .bf16 bitsLt_bf16_f32 (a : F .f32) : F .bf16) : F .f32)

set_option backward.proofsInPublic true in
/-- The sixteen chunks device `d` sends: its half of its block of `x`, rounded. -/
def sent (X : Dev nD → Vec F S1x2048x1024 .f32) (d : Dev nD) : Vec F S16x64x1024 .bf16 := fun i =>
  (FloatOps.truncf .bf16 bitsLt_bf16_f32 (X d (ix3 (0 : Fin 1)
    (⟨1024 * half d + 64 * (i 0).val + (i 1).val, by
      have h0 : (i 0).val < 16 := (i 0).isLt
      have h1 : (i 1).val < 64 := (i 1).isLt
      have := half_lt d; omega⟩ : Fin 2048) (i 2 : Fin 1024)) : F .f32) : F .bf16)

/-- The device that row `r` of device `d`'s result comes from. -/
def src (d : Dev nD) (r : Nat) : Dev nD := if r / 1024 = half d then yp d else yp (xp d)

/-- What the output buffer of device `d` ends up holding. -/
def obAt (X : Dev nD → Vec F S1x2048x1024 .f32) (d : Dev nD) : Vec F S2048x1024 .f32 := fun i =>
  thru (X (src d (i 0).val) (ix3 (0 : Fin 1) (i 0 : Fin 2048) (i 1 : Fin 1024)))

/-- The result of device `d`. -/
def outAt (X : Dev nD → Vec F S1x2048x1024 .f32) (d : Dev nD) : Vec F S1x2048x1024 .f32 := fun i =>
  thru (X (src d (i 1).val) (ix3 (0 : Fin 1) (i 1 : Fin 2048) (i 2 : Fin 1024)))

/-! ## Sets -/

/-- A slot has the same elements for the copies as for the loads and stores. -/
theorem slot_set (b : Ref sig .tc) (M : Memref sig .tc .vmem S16x64x1024 .bf16) (n : Fin 16) :
    (slotOf M n).view.set = (M.access (slotRect n)).set := View.set_reshape _ _

/-- The elements of a slot of the sending buffer. -/
theorem ys_set (n : Fin 16) : (slotOf ysM n).view.set = (slotRect n).set :=
  (View.set_reshape _ _).trans (View.set_slice_whole _ _)

/-- The elements of a slot of the first receiving buffer. -/
theorem yr_set (n : Fin 16) : (slotOf yrM n).view.set = (slotRect n).set :=
  (View.set_reshape _ _).trans (View.set_slice_whole _ _)

/-- The elements of a slot of the second receiving buffer. -/
theorem xr_set (n : Fin 16) : (slotOf xrM n).view.set = (slotRect n).set :=
  (View.set_reshape _ _).trans (View.set_slice_whole _ _)

/-- The elements of the output buffer of this half's chunk `n`. -/
theorem obA_set (d : Dev nD) (n : Fin 16) : (obA d n).view.set = (obRectA d n).set := View.set_slice_whole _ _

/-- The elements of the output buffer of the other half's chunk `n`. -/
theorem obB_set (d : Dev nD) (n : Fin 16) : (obB d n).view.set = (obRectB d n).set := View.set_slice_whole _ _

/-- The elements under a view, by the view's own indices. -/
theorem forall_set {sp : Space} {s : Shape} {e : EltTy} (v : View sig .tc sp s e) {Q : v.ty.Idx → Prop}
    (h : ∀ x, Q (v.emb x)) : ∀ i ∈ v.set, Q i := fun i hi => by
  obtain ⟨x, -, rfl⟩ := Finset.mem_map.mp hi
  exact h x

/-! ## What the stores and copies leave -/

/-- The store of the rounded chunk leaves the chunk in its slot. -/
theorem ys_write (X : Dev nD → Vec F S1x2048x1024 .f32) (d : Dev nD) (n : Fin 16)
    (f : (cc0_scratch0 : Ref sig .tc).ty.Contents (Elt F)) :
    ∀ i ∈ (ysM.access (slotRect n)).set,
      (ysM.access (slotRect n)).write (Elt F) f
        (enc ((xM.access (xRect d n)).read (Elt F) (X d))) Finset.univ i = sent X d i := by
  refine forall_set _ fun x => ?_
  rw [View.write_emb_of_mem _ _ (Finset.mem_univ x)]
  have h0 : (x 0).val = 0 := by have : (x 0).val < 1 := (x 0).isLt; omega
  show (FloatOps.truncf .bf16 bitsLt_bf16_f32 (X d ((xRect d n).emb (Shape.reshapeEquiv _ (Shape.reshapeEquiv _ x)))) : F .bf16)
    = FloatOps.truncf .bf16 bitsLt_bf16_f32 (X d _)
  rw [Shape.reshapeEquiv_reshapeEquiv, Shape.reshapeEquiv_self]
  congr 2
  have e := off2_eq d n
  funext a
  refine Fin.ext ?_
  rw [Rect.emb_apply]
  show k0_off2 d (wd n) a + 1 * (x a).val = _
  rw [e]
  fin_cases a
  · show 0 + 1 * (x 0).val = 0
    omega
  · show 1024 * half d + 64 * n.val + 1 * (x 1).val = 1024 * half d + 64 * (n.val + 1 * (x 0).val) + (0 + 1 * (x 1).val)
    omega
  · show 0 + 1 * (x 2).val = 0 + 1 * (x 2).val
    rfl

/-- A copy from a slot of the sending buffer to the same slot of the receiving one leaves what it held. -/
theorem ysyr_write (n : Fin 16) (fs : (cc0_scratch0 : Ref sig .tc).ty.Contents (Elt F))
    (fd : (cc0_scratch1 : Ref sig .tc).ty.Contents (Elt F)) :
    ∀ i ∈ (slotOf yrM n).view.set,
      (slotOf yrM n).view.write (Elt F) fd ((slotOf ysM n).view.read (Elt F) fs) Finset.univ i = fs i := by
  refine forall_set _ fun x => ?_
  rw [View.write_emb_of_mem _ _ (Finset.mem_univ x)]
  rfl

/-- The same for a copy from the receiving buffer to the one for passed-on chunks. -/
theorem yrxr_write (n : Fin 16) (fs : (cc0_scratch1 : Ref sig .tc).ty.Contents (Elt F))
    (fd : (cc0_scratch2 : Ref sig .tc).ty.Contents (Elt F)) :
    ∀ i ∈ (slotOf xrM n).view.set,
      (slotOf xrM n).view.write (Elt F) fd ((slotOf yrM n).view.read (Elt F) fs) Finset.univ i = fs i := by
  refine forall_set _ fun x => ?_
  rw [View.write_emb_of_mem _ _ (Finset.mem_univ x)]
  rfl

/-- A stored chunk `n` of device `e`, read at `(a, b)`: element `(64 n + a, b)` of its half. -/
theorem dec_sent (X : Dev nD → Vec F S1x2048x1024 .f32) (e : Dev nD) (n : Fin 16) (x : S64x1024.Idx)
    (r : Fin 2048) (hr : r.val = 1024 * half e + 64 * n.val + (x 0).val) :
    dec (fun j => sent X e ((slotRect n).emb j)) x = thru (X e (ix3 (0 : Fin 1) r (x 1 : Fin 1024))) := by
  have hc : (Shape.reshapeEquiv shapeCasts_S1x64x1024_S64x1024 x : S1x64x1024.Idx) = Fin.cons ⟨0, Nat.one_pos⟩ x :=
    Shape.reshapeEquiv_cons_one _ x
  have hd : (shapeCast S64x1024 (fun j => sent X e ((slotRect n).emb j)) shapeCasts_S1x64x1024_S64x1024 : FVec F S64x1024 .bf16) x
      = sent X e ((slotRect n).emb (Fin.cons ⟨0, Nat.one_pos⟩ x)) := by
    show sent X e ((slotRect n).emb (Shape.reshapeEquiv _ x)) = _
    rw [hc]
  show FloatOps.extf .f32 bitsLt_bf16_f32 ((shapeCast S64x1024 (fun j => sent X e ((slotRect n).emb j)) shapeCasts_S1x64x1024_S64x1024 : FVec F S64x1024 .bf16) (Shape.reshapeEquiv _ x)) = _
  rw [Shape.reshapeEquiv_self, hd]
  unfold thru sent
  congr 3
  have : r = ⟨1024 * half e + 64 * (n.val + 1 * 0) + (0 + 1 * (x 0).val), by omega⟩ := Fin.ext (by rw [hr]; show _ = 1024 * half e + 64 * (n.val + 1 * 0) + (0 + 1 * (x 0).val); omega)
  rw [this]
  have h2 : (⟨0 + 1 * (x 1).val, by have : (x 1).val < 1024 := (x 1).isLt; omega⟩ : Fin 1024) = x 1 := Fin.ext (by show 0 + 1 * (x 1).val = (x 1).val; omega)
  rw [← h2]
  rfl

/-- The store of the partner's chunk leaves its rows of the result in the output buffer. -/
theorem obA_write (X : Dev nD → Vec F S1x2048x1024 .f32) (d : Dev nD) (n : Fin 16)
    (f : (cc0_scratch3 : Ref sig .tc).ty.Contents (Elt F)) :
    ∀ i ∈ (obM.access (obRectA d n)).set,
      (obM.access (obRectA d n)).write (Elt F) f
        (dec ((yrM.access (slotRect n)).read (Elt F) (sent X (yp d)))) Finset.univ i = obAt X d i := by
  refine forall_set _ fun x => ?_
  rw [View.write_emb_of_mem _ _ (Finset.mem_univ x)]
  have e := off3_eq d n
  have h0 : ((obRectA d n).emb x 0).val = 1024 * half d + 64 * n.val + (x 0).val := by
    rw [Rect.emb_apply]
    show k0_off3 d (wd n) 0 + 1 * (x 0).val = _
    rw [e]; show 1024 * half d + 64 * n.val + 1 * (x 0).val = _; omega
  have h1 : (obRectA d n).emb x 1 = x 1 := Fin.ext <| by
    rw [Rect.emb_apply]
    show k0_off3 d (wd n) 1 + 1 * (x 1).val = _
    rw [e]; show 0 + 1 * (x 1).val = _; omega
  have hx0 : (x 0).val < 64 := (x 0).isLt
  have hs : src d ((obRectA d n).emb x 0).val = yp d := by
    unfold src; rw [if_pos]; rw [h0]; have := n.isLt; omega
  show dec (fun j => sent X (yp d) ((slotRect n).emb j)) x = thru (X (src d ((obRectA d n).emb x 0).val) (ix3 (0 : Fin 1) ((obRectA d n).emb x 0 : Fin 2048) ((obRectA d n).emb x 1 : Fin 1024)))
  rw [hs, h1]
  exact dec_sent X (yp d) n x _ (by rw [h0, half_yp])

/-- The store of the passed-on chunk leaves its rows of the result in the output buffer. -/
theorem obB_write (X : Dev nD → Vec F S1x2048x1024 .f32) (d : Dev nD) (n : Fin 16)
    (f : (cc0_scratch3 : Ref sig .tc).ty.Contents (Elt F)) :
    ∀ i ∈ (obM.access (obRectB d n)).set,
      (obM.access (obRectB d n)).write (Elt F) f
        (dec ((xrM.access (slotRect n)).read (Elt F) (sent X (yp (xp d))))) Finset.univ i = obAt X d i := by
  refine forall_set _ fun x => ?_
  rw [View.write_emb_of_mem _ _ (Finset.mem_univ x)]
  have e := off6_eq d n
  have h0 : ((obRectB d n).emb x 0).val = 1024 * (1 - half d) + 64 * n.val + (x 0).val := by
    rw [Rect.emb_apply]
    show k0_off6 d (wd n) 0 + 1 * (x 0).val = _
    rw [e]; show 1024 * (1 - half d) + 64 * n.val + 1 * (x 0).val = _; omega
  have h1 : (obRectB d n).emb x 1 = x 1 := Fin.ext <| by
    rw [Rect.emb_apply]
    show k0_off6 d (wd n) 1 + 1 * (x 1).val = _
    rw [e]; show 0 + 1 * (x 1).val = _; omega
  have hx0 : (x 0).val < 64 := (x 0).isLt
  have hs : src d ((obRectB d n).emb x 0).val = yp (xp d) := by
    unfold src; rw [if_neg]; rw [h0]; have := n.isLt; have := half_lt d; omega
  show dec (fun j => sent X (yp (xp d)) ((slotRect n).emb j)) x = thru (X (src d ((obRectB d n).emb x 0).val) (ix3 (0 : Fin 1) ((obRectB d n).emb x 0 : Fin 2048) ((obRectB d n).emb x 1 : Fin 1024)))
  rw [hs, h1]
  exact dec_sent X (yp (xp d)) n x _ (by rw [h0, half_yp, half_xp])

/-- The copy of a chunk's rows to the result leaves the result's rows there. -/
theorem outA_write (X : Dev nD → Vec F S1x2048x1024 .f32) (d : Dev nD) (n : Fin 16)
    (fd : (main_v1 : Ref sig .tc).ty.Contents (Elt F)) :
    ∀ i ∈ (outA d n).view.set,
      (outA d n).view.write (Elt F) fd ((obA d n).view.read (Elt F) (obAt X d)) Finset.univ i = outAt X d i := by
  refine forall_set _ fun x => ?_
  rw [View.write_emb_of_mem _ _ (Finset.mem_univ x)]
  have hc : (Shape.reshapeEquiv squeezes_S1x64x1024_S64x1024.numel_eq x : S1x64x1024.Idx) = Fin.cons ⟨0, Nat.one_pos⟩ x :=
    Shape.reshapeEquiv_cons_one _ x
  have h0 : ((obA d n).view.emb x 0 : Fin 2048) = (outA d n).view.emb x 1 := Fin.ext <| by
    show k0_off3 d (wd n) 0 + 1 * (x 0).val = k0_off4 d (wd n) 1 + 1 * (Shape.reshapeEquiv squeezes_S1x64x1024_S64x1024.numel_eq x 1).val
    rw [off3_eq, off4_eq, hc]; rfl
  have h1 : ((obA d n).view.emb x 1 : Fin 1024) = (outA d n).view.emb x 2 := Fin.ext <| by
    show k0_off3 d (wd n) 1 + 1 * (x 1).val = k0_off4 d (wd n) 2 + 1 * (Shape.reshapeEquiv squeezes_S1x64x1024_S64x1024.numel_eq x 2).val
    rw [off3_eq, off4_eq, hc]; rfl
  show thru (X (src d ((obA d n).view.emb x 0).val) (ix3 (0 : Fin 1) ((obA d n).view.emb x 0 : Fin 2048) ((obA d n).view.emb x 1 : Fin 1024)))
    = thru (X (src d ((outA d n).view.emb x 1).val) (ix3 (0 : Fin 1) ((outA d n).view.emb x 1 : Fin 2048) ((outA d n).view.emb x 2 : Fin 1024)))
  rw [h0, h1]

/-- The same for the rows of the other half. -/
theorem outB_write (X : Dev nD → Vec F S1x2048x1024 .f32) (d : Dev nD) (n : Fin 16)
    (fd : (main_v1 : Ref sig .tc).ty.Contents (Elt F)) :
    ∀ i ∈ (outB d n).view.set,
      (outB d n).view.write (Elt F) fd ((obB d n).view.read (Elt F) (obAt X d)) Finset.univ i = outAt X d i := by
  refine forall_set _ fun x => ?_
  rw [View.write_emb_of_mem _ _ (Finset.mem_univ x)]
  have hc : (Shape.reshapeEquiv squeezes_S1x64x1024_S64x1024.numel_eq x : S1x64x1024.Idx) = Fin.cons ⟨0, Nat.one_pos⟩ x :=
    Shape.reshapeEquiv_cons_one _ x
  have h0 : ((obB d n).view.emb x 0 : Fin 2048) = (outB d n).view.emb x 1 := Fin.ext <| by
    show k0_off6 d (wd n) 0 + 1 * (x 0).val = k0_off7 d (wd n) 1 + 1 * (Shape.reshapeEquiv squeezes_S1x64x1024_S64x1024.numel_eq x 1).val
    rw [off6_eq, off7_eq, hc]; rfl
  have h1 : ((obB d n).view.emb x 1 : Fin 1024) = (outB d n).view.emb x 2 := Fin.ext <| by
    show k0_off6 d (wd n) 1 + 1 * (x 1).val = k0_off7 d (wd n) 2 + 1 * (Shape.reshapeEquiv squeezes_S1x64x1024_S64x1024.numel_eq x 2).val
    rw [off6_eq, off7_eq, hc]; rfl
  show thru (X (src d ((obB d n).view.emb x 0).val) (ix3 (0 : Fin 1) ((obB d n).view.emb x 0 : Fin 2048) ((obB d n).view.emb x 1 : Fin 1024)))
    = thru (X (src d ((outB d n).view.emb x 1).val) (ix3 (0 : Fin 1) ((outB d n).view.emb x 1 : Fin 2048) ((outB d n).view.emb x 2 : Fin 1024)))
  rw [h0, h1]

end Cert.KernelIdeal.Swap
-- ==== Proof.Sched.lean ====
module

public import proofs.«01_k».proof.Proof.Contents
public import Idealize.ShloMosaic.Lib.Pipeline.Launch
public import Idealize.ShloMosaic.Lib.Pipeline.Kit
public import Idealize.ShloMosaic.Lib.Tactic

/-! The cells the kernels meet on, what each delivery hands over, and what each device owes.

Every semaphore of the kernel is used for one round. The barrier of a device has two duties, one paid
by each partner, handing over the slots that device will send into. Every copy semaphore has one duty,
paid by the copy it counts, handing over the rows the copy wrote or read. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The rows of semaphores: chunk sent to the other block's holder, received from it, passed on,
received passed on, and the two copies to the result. -/
abbrev rowOf : Fin 6 → DmaSems sig S16
  | 0 => cc0_scratch4
  | 1 => cc0_scratch5
  | 2 => cc0_scratch6
  | 3 => cc0_scratch7
  | 4 => cc0_scratch8
  | 5 => cc0_scratch9

/-- The barrier semaphore of the runtime. -/
abbrev barS : Sem sig := (SemArray.scalar (sig.barrier 0 rfl) : Sems sig S_).sem

/-- The copy semaphore of a row and a chunk. -/
abbrev osem (kn : Fin 6 × Fin 16) : SemLoc sig := .dma (semOf (rowOf kn.1) kn.2)

/-- All semaphores of the kernel: the barrier and the copy semaphores. -/
abbrev csem : Unit ⊕ (Fin 6 × Fin 16) → SemLoc sig := Sum.elim (fun _ => .reg barS) osem

/-- The barrier of device `c`. -/
abbrev barCell (c : Dev nD) : GSem nD τ sig := ((c : Thread nD τ), .reg barS)

/-- The copy semaphore of device `c` of a row and a chunk. -/
abbrev dCell (c : Dev nD) (k : Fin 6) (n : Fin 16) : GSem nD τ sig := ((c : Thread nD τ), osem (k, n))

/-- The semaphore of a device, by its index. -/
abbrev kcell (ck : Dev nD × (Unit ⊕ (Fin 6 × Fin 16))) : GSem nD τ sig := ((ck.1 : Thread nD τ), csem ck.2)

/-- The bytes of one rounded chunk, and of one full-width chunk, as the semaphores count them. -/
abbrev NB : ℕ := (slotOf yrM 0).view.dmaCredit

/-- The bytes of one full-width chunk, as the semaphores count them. -/
abbrev NF : ℕ := (outA 0 0).view.dmaCredit

/-- A rounded chunk has bytes. -/
theorem NB_pos : 0 < NB := View.dmaCredit_pos _ (by decide)

/-- A full-width chunk has bytes. -/
theorem NF_pos : 0 < NF := View.dmaCredit_pos _ (by decide)

/-- The units a copy of row `k` delivers. -/
def amt (k : Fin 6) : ℕ := if k.val < 4 then NB else NF

/-- Every copy delivers something. -/
theorem amt_pos (k : Fin 6) : 0 < amt k := by
  unfold amt; split
  · exact NB_pos
  · exact NF_pos

/-- The number of a copy semaphore. -/
theorem semOf_val (k : Fin 6) (n : Fin 16) : (semOf (rowOf k) n).val = 2 + 16 * k.val + n.val := by
  revert k n; decide

set_option backward.proofsInPublic true in
/-- The row and chunk a semaphore counts for. -/
def decode : SemLoc sig → Option (Fin 6 × Fin 16)
  | .dma q => if h : 2 ≤ q.val ∧ q.val < 98 then
      some (⟨(q.val - 2) / 16, by omega⟩, ⟨(q.val - 2) % 16, by omega⟩) else none
  | _ => none

/-- A copy semaphore is found back from its number. -/
theorem decode_osem (kn : Fin 6 × Fin 16) : decode (osem kn) = some kn := by
  obtain ⟨k, n⟩ := kn
  have h := semOf_val k n
  unfold osem decode
  simp only
  rw [dif_pos (by omega)]
  refine congrArg some (Prod.ext (Fin.ext ?_) (Fin.ext ?_)) <;> simp only <;> omega

/-- The copy semaphores are distinct. -/
theorem osem_inj : Function.Injective osem := fun a b h =>
  Option.some_injective _ (by rw [← decode_osem a, ← decode_osem b, h])

/-- The barrier is no copy semaphore. -/
theorem decode_bar : decode (.reg barS) = none := rfl

/-- No copy semaphore is the barrier. -/
theorem osem_ne_bar (kn : Fin 6 × Fin 16) : osem kn ≠ .reg barS := fun h => by cases h

/-! ## The rows, held -/

variable (X : Dev nD → Vec F S1x2048x1024 .f32)

/-- Slot `n` of the sending buffer of `c`, holding its own chunk. -/
def ysP (c : Dev nD) (n : Fin 16) : sProp 𝕄 :=
  (slotOf ysM n).view.loc (c : Thread nD τ) ↦[(slotOf ysM n).view.set]{fullShare} sent X c
/-- A share of slot `n` of the first receiving buffer of `c`, holding the partner's chunk. -/
def yrP (q : PosShare TreeShare) (c : Dev nD) (n : Fin 16) : sProp 𝕄 :=
  (slotOf yrM n).view.loc (c : Thread nD τ) ↦[(slotOf yrM n).view.set]{q} sent X (yp c)
/-- Slot `n` of the second receiving buffer of `c`, holding the chunk passed on to it. -/
def xrP (c : Dev nD) (n : Fin 16) : sProp 𝕄 :=
  (slotOf xrM n).view.loc (c : Thread nD τ) ↦[(slotOf xrM n).view.set]{fullShare} sent X (yp (xp c))
/-- The rows of the output buffer and of the result of `c` of its own half's chunk `n`, filled. -/
def obaP (c : Dev nD) (n : Fin 16) : sProp 𝕄 :=
  (obA c n).view.loc (c : Thread nD τ) ↦[(obA c n).view.set]{fullShare} obAt X c

/-- The rows of the output buffer of the other half's chunk `n`, filled. -/
def obbP (c : Dev nD) (n : Fin 16) : sProp 𝕄 :=
  (obB c n).view.loc (c : Thread nD τ) ↦[(obB c n).view.set]{fullShare} obAt X c

/-- The rows of the result of its own half's chunk `n`, filled. -/
def outaP (c : Dev nD) (n : Fin 16) : sProp 𝕄 :=
  (outA c n).view.loc (c : Thread nD τ) ↦[(outA c n).view.set]{fullShare} outAt X c

/-- The rows of the result of the other half's chunk `n`, filled. -/
def outbP (c : Dev nD) (n : Fin 16) : sProp 𝕄 :=
  (outB c n).view.loc (c : Thread nD τ) ↦[(outB c n).view.set]{fullShare} outAt X c

/-- The same rows with any contents. -/
def ysE (c : Dev nD) (n : Fin 16) : sProp 𝕄 :=
  iprop(∃ f, (slotOf ysM n).view.loc (c : Thread nD τ) ↦[(slotOf ysM n).view.set]{fullShare} f)

/-- Slot `n` of the first receiving buffer, with any contents. -/
def yrE (c : Dev nD) (n : Fin 16) : sProp 𝕄 :=
  iprop(∃ f, (slotOf yrM n).view.loc (c : Thread nD τ) ↦[(slotOf yrM n).view.set]{fullShare} f)

/-- Slot `n` of the second receiving buffer, with any contents. -/
def xrE (c : Dev nD) (n : Fin 16) : sProp 𝕄 :=
  iprop(∃ f, (slotOf xrM n).view.loc (c : Thread nD τ) ↦[(slotOf xrM n).view.set]{fullShare} f)

/-- The rows of the output buffer of its own half's chunk `n`, with any contents. -/
def obaE (c : Dev nD) (n : Fin 16) : sProp 𝕄 :=
  iprop(∃ f, (obA c n).view.loc (c : Thread nD τ) ↦[(obA c n).view.set]{fullShare} f)

/-- The rows of the output buffer of the other half's chunk `n`, with any contents. -/
def obbE (c : Dev nD) (n : Fin 16) : sProp 𝕄 :=
  iprop(∃ f, (obB c n).view.loc (c : Thread nD τ) ↦[(obB c n).view.set]{fullShare} f)

/-- The rows of the result of its own half's chunk `n`, with any contents. -/
def outaE (c : Dev nD) (n : Fin 16) : sProp 𝕄 :=
  iprop(∃ f, (outA c n).view.loc (c : Thread nD τ) ↦[(outA c n).view.set]{fullShare} f)

/-- The rows of the result of the other half's chunk `n`, with any contents. -/
def outbE (c : Dev nD) (n : Fin 16) : sProp 𝕄 :=
  iprop(∃ f, (outB c n).view.loc (c : Thread nD τ) ↦[(outB c n).view.set]{fullShare} f)

/-- What a delivery on a copy semaphore of `c` hands over. -/
def pay (c : Dev nD) (k : Fin 6) (n : Fin 16) : sProp 𝕄 :=
  match k with
  | 0 => ysP X c n
  | 1 => yrP X fullShare c n
  | 2 => yrP X fullShare.left c n
  | 3 => xrP X c n
  | 4 => iprop(outaP X c n ∗ obaP X c n)
  | 5 => iprop(outbP X c n ∗ obbP X c n)

/-- What a partner's signal on the barrier of `c` hands over: that partner's slots `c` sends into. -/
def barPay (c : Dev nD) : Bool → sProp 𝕄
  | false => bigSep Finset.univ fun n : Fin 16 => yrE (yp c) n
  | true => bigSep Finset.univ fun n : Fin 16 => xrE (xp c) n

omit [FloatOps F] in
/-- What a signal hands over can be kept in an invariant. -/
instance barPay_storable (c : Dev nD) (d : Bool) :
    BI.Storable (upEmb : UEmb _ 𝕄) (barPay (F := F) c d) := by
  cases d <;> unfold barPay <;> unfold yrE xrE <;> infer_instance

/-- What a delivery hands over can be kept in an invariant. -/
instance pay_storable (c : Dev nD) (k : Fin 6) (n : Fin 16) :
    BI.Storable (upEmb : UEmb _ 𝕄) (pay X c k n) := by
  unfold pay ysP yrP xrP obaP obbP outaP outbP
  split <;> infer_instance

/-! ## The schedule -/

/-- One round on every cell of the kernel. -/
def Rd : Rounds.Schedule (GSem nD τ sig) Bool 𝕄 where
  duties g r := if r = 0 ∧ g.1.2 = .tc then
      (if g.2 = .reg barS then Finset.univ else if (decode g.2).isSome then {false} else ∅) else ∅
  unitless _ := False
  amount g _ _ := match decode g.2 with
    | some kn => amt kn.1
    | none => 1
  payload g _ d := if g.2 = .reg barS then barPay g.1.1 d else
    match decode g.2 with
    | some kn => pay X g.1.1 kn.1 kn.2
    | none => iprop(emp)
  amount_pos g _ _ _ := by
    show 0 < match decode g.2 with
      | some kn => amt kn.1
      | none => 1
    split
    · exact amt_pos _
    · exact Nat.one_pos

/-- Every payload of the schedule can be kept in an invariant. -/
instance Rd_payload_storable (g : GSem nD τ sig) (r : ℕ) (d : Bool) :
    BI.Storable (upEmb : UEmb _ 𝕄) ((Rd X).payload g r d) := by
  show BI.Storable upEmb (if g.2 = .reg barS then barPay g.1.1 d else
    match decode g.2 with
    | some kn => pay X g.1.1 kn.1 kn.2
    | none => iprop(emp))
  (repeat' split) <;> infer_instance

section Lemmas
variable (c : Dev nD) (k : Fin 6) (n : Fin 16)

/-- The barrier has a duty of each partner. -/
theorem duties_bar : (Rd X).duties (barCell c) 0 = Finset.univ := by
  dsimp only [Rd]; rw [if_pos ⟨rfl, rfl⟩, if_pos rfl]

/-- A copy semaphore has one duty. -/
theorem duties_d : (Rd X).duties (dCell c k n) 0 = {false} := by
  dsimp only [Rd]
  rw [if_pos ⟨rfl, rfl⟩, if_neg (osem_ne_bar _), decode_osem]; rfl

/-- There is one round only. -/
theorem duties_later (g : GSem nD τ sig) : ∀ r, 1 ≤ r → (Rd X).duties g r = ∅ :=
  fun r hr => by dsimp only [Rd]; rw [if_neg fun h => by omega]

/-- A signal adds one. -/
theorem amount_bar (d : Bool) : (Rd X).amount (barCell c) 0 d = 1 := by
  dsimp only [Rd]; rw [decode_bar]

/-- A delivery adds the bytes of its chunk. -/
theorem amount_d (d : Bool) : (Rd X).amount (dCell c k n) 0 d = amt k := by
  dsimp only [Rd]; rw [decode_osem]

/-- The barrier expects two signals. -/
theorem expect_bar : (Rd X).expect (barCell c) 0 = 2 := by
  unfold Schedule.expect Schedule.amountOf
  rw [duties_bar, Finset.sum_congr rfl fun d _ => amount_bar X c d, Finset.sum_const,
    Finset.card_univ, Fintype.card_bool, smul_eq_mul]

/-- A copy semaphore expects one delivery. -/
theorem expect_d : (Rd X).expect (dCell c k n) 0 = amt k := by
  unfold Schedule.expect Schedule.amountOf
  rw [duties_d, Finset.sum_singleton, amount_d]

/-- What a signal hands over, in the schedule. -/
theorem payload_bar (d : Bool) : (Rd X).payload (barCell c) 0 d = barPay c d := by
  dsimp only [Rd]; rw [if_pos rfl]

/-- What a delivery hands over, in the schedule. -/
theorem payload_d (d : Bool) : (Rd X).payload (dCell c k n) 0 d = pay X c k n := by
  dsimp only [Rd]; rw [if_neg (osem_ne_bar _), decode_osem]

/-- What a device gets once both signals have come. -/
theorem rest_bar : bigSep ((Rd X).duties (barCell c) 0 \ ∅)
    (fun d => (Rd X).payload (barCell c) 0 d) = iprop(barPay c false ∗ barPay c true) := by
  rw [Finset.sdiff_empty, duties_bar,
    bigSep_univ_eq_bigSepL [false, true] (by decide) (by decide), bigSepL_cons_cons,
    bigSepL_singleton, payload_bar, payload_bar]
  rfl

/-- What a device gets once a delivery has come. -/
theorem rest_d : bigSep ((Rd X).duties (dCell c k n) 0 \ ∅)
    (fun d => (Rd X).payload (dCell c k n) 0 d) = pay X c k n := by
  rw [Finset.sdiff_empty, duties_d, bigSep_singleton, payload_d]

end Lemmas

/-! ## What is owed, and the levels -/

/-- What the step `a` of device `c` pays to another device: its chunk to the one partner, the passed-on
chunk to the other. -/
def due (c : Dev nD) (a : Kind × Fin 16) : CellTallies nD τ sig Unit :=
  match a.1 with
  | .ys => tallyAt (dCell (yp c) 1 a.2) () (amt 1)
  | .yr => tallyAt (dCell (xp c) 3 a.2) () (amt 3)
  | _ => 0

/-- What a list of steps pays. -/
def dues (c : Dev nD) : List (Kind × Fin 16) → CellTallies nD τ sig Unit
  | [] => 0
  | a :: l => dues c l + due c a

/-- What a device owes after both its signals, before the second, and at the start. -/
def O₁ (c : Dev nD) : CellTallies nD τ sig Unit := dues c steps + tallyAt (barCell (xp c)) () 1

/-- What a device owes at the start: both signals and all its steps. -/
def O₀ (c : Dev nD) : CellTallies nD τ sig Unit := O₁ c + tallyAt (barCell (yp c)) () 1

/-- Every semaphore of a core carries one obligation. -/
def L (g : GSem nD τ sig) : Finset Unit := if g.1.2 = .tc then {()} else ∅

/-- The level of a copy semaphore. -/
def rank : Option (Fin 6 × Fin 16) → ℕ
  | some (k, n) => if k = 1 then 2 else if k = 3 then 10 + n.val else 0
  | none => 0

/-- The level of a semaphore: a wait is allowed only below everything still owed. -/
def lv (g : GSem nD τ sig) (_ : Unit) : ℕ := if g.2 = .reg barS then 1 else rank (decode g.2)

/-- The level of a barrier. -/
theorem lv_bar (c : Dev nD) : lv (barCell c) () = 1 := if_pos rfl

/-- The level of a copy semaphore, by its row and chunk. -/
theorem lv_d (c : Dev nD) (k : Fin 6) (n : Fin 16) : lv (dCell c k n) () = rank (some (k, n)) := by
  unfold lv; rw [if_neg (osem_ne_bar _), decode_osem]

/-- Away from the cores there is no obligation. -/
theorem L_of_ne (g : GSem nD τ sig) (h : g.1.2 ≠ .tc) : L g = ∅ := if_neg h

/-- A semaphore of a core carries the one obligation. -/
theorem L_tc (c : Dev nD) (sm : SemLoc sig) : L ((c : Thread nD τ), sm) = {()} := if_pos rfl

/-- The level a step pays at. -/
def dueRank : Kind × Fin 16 → ℕ
  | (.ys, _) => 2
  | (.yr, n) => 10 + n.val
  | _ => 100

/-- The level a step waits at. -/
def waitRank : Kind × Fin 16 → ℕ
  | (.yr, _) => 2
  | (.xr, n) => 10 + n.val
  | _ => 0

/-- A cell that a list of steps pays is one that one of the steps pays, at that step's level. -/
theorem dues_pos {c : Dev nD} {l : List (Kind × Fin 16)} {g : GSem nD τ sig} {u : Unit}
    (h : 0 < dues c l g u) : g.1.2 = .tc ∧ ∃ a ∈ l, lv g u = dueRank a := by
  induction l with
  | nil => exact absurd h (lt_irrefl 0)
  | cons a l ih =>
    unfold dues at h
    rw [Pi.add_apply, Finsupp.add_apply] at h
    by_cases hl : 0 < dues c l g u
    · obtain ⟨h1, b, hb, h2⟩ := ih hl
      exact ⟨h1, b, List.mem_cons_of_mem _ hb, h2⟩
    · have ha : 0 < due c a g u := by omega
      obtain ⟨k, n⟩ := a
      cases u
      cases k <;> unfold due at ha <;> simp only at ha
      case ys =>
        rw [tallyAt_apply] at ha
        split at ha
        · rename_i he
          rw [he.1, lv_d]
          exact ⟨rfl, _, List.mem_cons_self, rfl⟩
        · exact absurd ha (lt_irrefl 0)
      case yr =>
        rw [tallyAt_apply] at ha
        split at ha
        · rename_i he
          rw [he.1, lv_d]
          exact ⟨rfl, _, List.mem_cons_self, rfl⟩
        · exact absurd ha (lt_irrefl 0)
      all_goals exact absurd ha (lt_irrefl 0)

/-- A wait is allowed while the steps still to pay pay at higher levels. -/
theorem mayWait_dues (c : Dev nD) (sm : SemLoc sig) (l : List (Kind × Fin 16)) (r : ℕ)
    (hr : lv ((c : Thread nD τ), sm) () = r) (h : ∀ a ∈ l, r < dueRank a) :
    (levAts L lv : sProp 𝕄) ⊢ MayWait (c : Thread nD τ) sm () (dues c l) :=
  MayOwe.of_cut (L := L) (lev := lv) r
    (fun p hp => by rw [Finset.mem_singleton.mp hp, L_tc]; exact Finset.mem_singleton_self _)
    (fun g u hg => by
      have := (dues_pos hg).1
      unfold L; rw [if_pos this]; exact Finset.mem_singleton_self _)
    (fun p hp => by rw [Finset.mem_singleton.mp hp, hr])
    (fun g u hg => by
      obtain ⟨_, a, ha, he⟩ := dues_pos hg
      rw [he]; exact h a ha)

/-- At the start everything owed is above level zero. -/
theorem O₀_pos {c : Dev nD} {g : GSem nD τ sig} {u : Unit} (h : 0 < O₀ c g u) :
    g.1.2 = .tc ∧ 0 < lv g u := by
  unfold O₀ O₁ at h
  rw [Pi.add_apply, Finsupp.add_apply, Pi.add_apply, Finsupp.add_apply, tallyAt_apply,
    tallyAt_apply] at h
  by_cases h1 : g = barCell (xp c) ∧ u = ()
  · rw [h1.1, h1.2, lv_bar]; exact ⟨rfl, Nat.one_pos⟩
  by_cases h2 : g = barCell (yp c) ∧ u = ()
  · rw [h2.1, h2.2, lv_bar]; exact ⟨rfl, Nat.one_pos⟩
  rw [if_neg h1, if_neg h2] at h
  simp only [Nat.add_zero] at h
  obtain ⟨h3, a, _, he⟩ := dues_pos h
  refine ⟨h3, ?_⟩
  rw [he]
  obtain ⟨k, n⟩ := a
  cases k <;> simp [dueRank]

/-- The waits on a staging semaphore are allowed, at the start and at the end. -/
theorem mayWait_stage (c : Dev nD) (q : DmaSem sig) (hq : decode (.dma q) = none)
    (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by
        have := (O₀_pos hg).1
        unfold L; rw [if_pos this]; exact Finset.mem_singleton_self _)
      (fun p hp => by
        rw [Finset.mem_singleton.mp hp]; unfold lv
        rw [if_neg (fun h => by cases h), hq]; exact le_refl 0)
      (fun g u hg => (O₀_pos hg).2)
  · rw [MayWait_zero]; iintro -; iempintro

end Cert.KernelIdeal.Swap
-- ==== Proof.Steps.lean ====
module

public import proofs.«01_k».proof.Proof.Sched
public import Idealize.ShloMosaic.Lib.Pipeline.BigSepL

/-! Every step of the body, from what it needs to what it leaves, and a list of steps from the steps. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loop needs a variant. -/
abbrev 𝒱₀ : Variants := Variants.none

variable (X : Dev nD → Vec F S1x2048x1024 .f32)

/-! ## What every device knows of every cell -/

/-- The names of the invariants of all cells. -/
abbrev Names : Type := Dev nD × (Unit ⊕ (Fin 6 × Fin 16)) → ℕ

/-- Every cell's invariant, and that its round is open. -/
def records (K : Names) : sProp 𝕄 :=
  iprop((bigSep Finset.univ fun ck => cellInv ER (Rd X) (K ck) (kcell ck))
    ∗ bigSep Finset.univ fun ck => reached ER (kcell ck) 0)

/-- What is known of the cells stays known. -/
instance records_persistent (K : Names) : BI.Persistent (records X K) := by
  unfold records; infer_instance

/-- A cell's invariant is among the records. -/
theorem inv_at (K : Names) (ck : Dev nD × (Unit ⊕ (Fin 6 × Fin 16))) :
    records X K ⊢ cellInv ER (Rd X) (K ck) (kcell ck) := by
  unfold records
  exact sep_elim_left.trans (bigSep_elim (Φ := fun ck => (cellInv ER (Rd X) (K ck) (kcell ck) : sProp 𝕄)) (Finset.mem_univ ck))

/-- That a cell's round is open is among the records. -/
theorem reached_at (K : Names) (ck : Dev nD × (Unit ⊕ (Fin 6 × Fin 16))) :
    records X K ⊢ reached ER (kcell ck) 0 := by
  unfold records
  exact sep_elim_right.trans (bigSep_elim (Φ := fun ck => (reached ER (kcell ck) 0 : sProp 𝕄)) (Finset.mem_univ ck))

/-- What every device knows: the cells, and the levels. -/
def known (K : Names) : sProp 𝕄 := iprop(records X K ∗ levAts L lv)

/-- What every device knows stays known. -/
instance known_persistent (K : Names) : BI.Persistent (known X K) := by
  unfold known; infer_instance

/-- The invariant of a copy cell. -/
theorem inv_d (K : Names) (c : Dev nD) (k : Fin 6) (n : Fin 16) :
    known X K ⊢ cellInv ER (Rd X) (K (c, .inr (k, n))) (dCell c k n) := by
  unfold known; iintro ⟨H, -⟩; iapply (inv_at X K (c, .inr (k, n))); iexact H

/-- That the round of a copy cell is open. -/
theorem reached_d (K : Names) (c : Dev nD) (k : Fin 6) (n : Fin 16) :
    known X K ⊢ reached ER (dCell c k n) 0 := by
  unfold known; iintro ⟨H, -⟩; iapply (reached_at X K (c, .inr (k, n))); iexact H

/-- The invariant of a barrier. -/
theorem inv_bar (K : Names) (c : Dev nD) :
    known X K ⊢ cellInv ER (Rd X) (K (c, .inl ())) (barCell c) := by
  unfold known; iintro ⟨H, -⟩; iapply (inv_at X K (c, .inl ())); iexact H

/-- That the round of a barrier is open. -/
theorem reached_bar (K : Names) (c : Dev nD) :
    known X K ⊢ reached ER (barCell c) 0 := by
  unfold known; iintro ⟨H, -⟩; iapply (reached_at X K (c, .inl ())); iexact H

/-! ## What a step takes and leaves -/

/-- The device's block of `x`, staged. -/
def xP (c : Dev nD) : sProp 𝕄 := ((c : Thread nD τ).loc cc0_stg1_0) ↦{fullShare} X c

/-- What device `c` owes, whatever it has waited on. -/
def owesE (c : Dev nD) (O : CellTallies nD τ sig Unit) : sProp 𝕄 :=
  iprop(∃ W, owes (c : Thread nD τ) O W)

/-- The token of the one duty of a copy cell. -/
abbrev tok (c : Dev nD) (k : Fin 6) (n : Fin 16) : sProp 𝕄 := dutyTok ER (dCell c k n) 0 false
/-- The right to wait on a copy cell, not used yet. -/
abbrev pos (c : Dev nD) (k : Fin 6) (n : Fin 16) : sProp 𝕄 := atPos ER (dCell c k n) 0 ∅ 0
/-- The credit of one delivery on a copy cell. -/
abbrev crd (c : Dev nD) (k : Fin 6) (n : Fin 16) : sProp 𝕄 := cred (tallyAt (dCell c k n) () (amt k))
/-- A copy cell closed again. -/
abbrev shut (c : Dev nD) (k : Fin 6) (n : Fin 16) : sProp 𝕄 := semVal (dCell c k n) 0

/-- What a step takes. -/
def Pre (c : Dev nD) : Kind × Fin 16 → sProp 𝕄
  | (.ys, n) => iprop(ysE c n ∗ yrE (yp c) n ∗ tok c 0 n ∗ tok (yp c) 1 n)
  | (.yr, n) => iprop(pos c 1 n ∗ crd c 1 n ∗ xrE (xp c) n ∗ tok c 2 n ∗ tok (xp c) 3 n
      ∗ obaE c n ∗ outaE c n ∗ tok c 4 n)
  | (.xr, n) => iprop(pos c 3 n ∗ crd c 3 n ∗ obbE c n ∗ outbE c n ∗ tok c 5 n)
  | (.oy, n) => iprop(pos c 4 n ∗ crd c 4 n)
  | (.ox, n) => iprop(pos c 5 n ∗ crd c 5 n)
  | (.wys, n) => iprop(pos c 0 n ∗ crd c 0 n)
  | (.wxs, n) => iprop(pos c 2 n ∗ crd c 2 n)

/-- What a step leaves. -/
def Post (c : Dev nD) : Kind × Fin 16 → sProp 𝕄
  | (.ys, n) => crd c 0 n
  | (.yr, n) => iprop(shut c 1 n ∗ crd c 2 n ∗ yrP X fullShare.right c n ∗ crd c 4 n)
  | (.xr, n) => iprop(shut c 3 n ∗ xrP X c n ∗ crd c 5 n)
  | (.oy, n) => iprop(shut c 4 n ∗ outaP X c n ∗ obaP X c n)
  | (.ox, n) => iprop(shut c 5 n ∗ outbP X c n ∗ obbP X c n)
  | (.wys, n) => iprop(shut c 0 n ∗ ysP X c n)
  | (.wxs, n) => iprop(shut c 2 n ∗ yrP X fullShare.left c n)

section Step
variable (K : Names) (c : Dev nD)

/-- The weakest precondition of a program of device `c`. -/
abbrev WP (c : Dev nD) (p : P F) (Q : PUnit.{1} → sProp 𝕄) : sProp 𝕄 :=
  wp frame (wpE (defs₀ (F := F)) 𝒱₀ (c : Thread nD τ) none) Set.univ p Q

/-- A wait on a copy cell: it hands over what the delivery carries, and the cell is closed. -/
theorem wait_d (Q : PUnit.{1} → sProp 𝕄) (k : Fin 6) (n : Fin 16) (l : List (Kind × Fin 16)) {sp sp' : Space} {s : Shape} {e : EltTy}
    {src : Memref sig .tc sp s e} {dst : Memref sig .tc sp' s e} {hs : src.view.WordExact}
    {hd : dst.view.WordExact} (hN : dst.view.dmaCredit = amt k)
    (hl : ∀ a ∈ l, rank (some (k, n)) < dueRank a) (p : PUnit → P F) :
    iprop(known X K ∗ pos c k n ∗ crd c k n ∗ owesE c (dues c l))
      ⊢ iprop(((pay X c k n ∗ shut c k n ∗ owesE c (dues c l)) -∗ WP c (p ⟨⟩) Q)
        -∗ WP c (.op (.waitDma2 (semOf (rowOf k) n) src dst hs hd) p) Q) := by
  unfold owesE
  have hx : 0 + dst.view.dmaCredit = (Rd X).expect (dCell c k n) 0 := by
    rw [Nat.zero_add, expect_d X c k n, hN]
  iintro ⟨#HK, Hat, Hc, ⟨%W, HO⟩⟩ Hk
  iapply (Rounds.wp_wait_rest_token 𝒱₀ ER (Rd X) (c : Thread nD τ) none (κ := K (c, .inr (k, n)))
      (wpE_waitDma2_eq 𝒱₀ (c : Thread nD τ) none Set.univ) (Set.mem_univ _) () (O := dues c l) (W := W)
      (R := 0) (m := 0) (T := ∅) hx) $$ [Hc HO Hat]
  · isplitr; · iapply (inv_d X K c k n); iexact HK
    isplitl [Hc]; · rw [hN]; iexact Hc
    isplitl [HO]; · iexact HO
    isplitr
    · iapply (mayWait_dues c (osem (k, n)) l _ (lv_d c k n) hl)
      unfold known; icases HK with ⟨-, #HL⟩; iexact HL
    iexact Hat
  iintro ⟨HO, Hat, -, Hpay⟩
  ihave Hp := (Entails.of_eq (rest_d X c k n)) $$ Hpay
  imod (Rounds.cell_close ER (Rd X) (Set.mem_univ (K (c, .inr (k, n)))) (fun h => h) (R := 0 + 1)
    (duties_later X (dCell c k n))) $$ [Hat] with Hz
  · isplitr; · iapply (inv_d X K c k n); iexact HK
    iexact Hat
  iapply Hk
  isplitl [Hp]; · iexact Hp
  isplitl [Hz]; · iexact Hz
  iexists _; iexact HO

/-- Steps that pay nothing leave what is owed as it is. -/
theorem dues_zero (a : Kind × Fin 16) (l : List (Kind × Fin 16)) (h : due c a = 0) :
    dues c (a :: l) = dues c l := by
  show dues c l + due c a = dues c l
  rw [h, add_zero]

/-- The slot after the rounded chunk is stored in it. -/
theorem ys_stored (n : Fin 16) (f : Buf (Elt F) ((slotOf ysM n).view.loc (c : Thread nD τ))) :
    ((slotOf ysM n).view.loc (c : Thread nD τ) ↦[(slotOf ysM n).view.set]{fullShare}
        ((ysM.access (slotRect n)).write (Elt F) f
          (enc ((xM.access (xRect c n)).read (Elt F) (X c))) Finset.univ) : sProp 𝕄)
      = ysP X c n := by
  unfold ysP
  refine pointsTo_congr ?_
  rw [slot_set cc0_scratch0 ysM n]
  exact ys_write X c n f

/-- What a copy to a slot counts. -/
theorem amount_slot (M : Memref sig .tc .vmem S16x64x1024 .bf16) (n : Fin 16) (q : DmaSem sig) (k : Fin 6)
    (h : (slotOf M n).view.amount (.dma q) = NB) (hk : k.val < 4) :
    (slotOf M n).view.amount (.dma q) = amt k := by
  unfold amt; rw [if_pos hk, h]

/-- The chunk sent comes back to the sender's slot. -/
theorem pay_ys (n : Fin 16) : ((slotOf ysM n).view.loc (c : Thread nD τ)
      ↦[(slotOf ysM n).view.set]{fullShare} sent X c : sProp 𝕄)
    ⊢ (Rd X).payload (dCell c 0 n) 0 false := by
  rw [payload_d X c 0 n]; exact BI.Entails.refl _

/-- The chunk sent lands in the partner's slot. -/
theorem pay_yr (n : Fin 16) (g : Buf (Elt F) ((slotOf yrM n).view.loc (yp c : Thread nD τ))) :
    ((slotOf yrM n).view.loc (yp c : Thread nD τ) ↦[(slotOf yrM n).view.set]{fullShare}
      (slotOf yrM n).view.write (Elt F) g ((slotOf ysM n).view.read (Elt F) (sent X c)) Finset.univ : sProp 𝕄)
    ⊢ (Rd X).payload (dCell (yp c) 1 n) 0 false := by
  rw [payload_d X (yp c) 1 n]
  refine Entails.of_eq ?_
  show _ = yrP X fullShare (yp c) n
  unfold yrP
  rw [yp_yp]
  exact pointsTo_congr (ysyr_write n (sent X c) g)

/-- Sending a stored chunk to the partner. -/
theorem send_ys (Q : PUnit.{1} → sProp 𝕄) (n : Fin 16) (l : List (Kind × Fin 16)) (p : PUnit → P F)
    (g : Buf (Elt F) ((slotOf yrM n).view.loc (yp c : Thread nD τ))) (W : Waits sig Unit)
    {hsc : (slotOf yrM n).view.ref.isScScratch = false} {hs : (slotOf ysM n).view.WordExact}
    {hd : (slotOf yrM n).view.WordExact}
    {ht : DmaTarget.Typed .vmem (.dma (semOf cc0_scratch5 n))
      (.remote (yp c : Thread nD τ) (slotOf yrM n) (.dma (semOf cc0_scratch4 n)) hsc)} :
    iprop(cellInv ER (Rd X) (K (c, .inr (0, n))) (dCell c 0 n)
        ∗ cellInv ER (Rd X) (K (yp c, .inr (1, n))) (dCell (yp c) 1 n)
        ∗ ((slotOf ysM n).view.loc (c : Thread nD τ) ↦[(slotOf ysM n).view.set]{fullShare} sent X c)
        ∗ ((slotOf yrM n).view.loc (yp c : Thread nD τ) ↦[(slotOf yrM n).view.set]{fullShare} g)
        ∗ owes (c : Thread nD τ) (dues c ((.ys, n) :: l)) W
        ∗ tok c 0 n ∗ reached ER (dCell c 0 n) 0
        ∗ tok (yp c) 1 n ∗ reached ER (dCell (yp c) 1 n) 0)
      ⊢ iprop(((crd c 0 n ∗ owes (c : Thread nD τ) (dues c l) W) -∗ WP c (p ⟨⟩) Q)
          -∗ WP c (.op (.enqueueDma (slotOf ysM n) (.remote (yp c : Thread nD τ) (slotOf yrM n)
              (.dma (semOf cc0_scratch4 n)) hsc) (.dma (semOf cc0_scratch5 n)) hs hd ht) p) Q) :=
  Rounds.wp_send_pointsTo 𝒱₀ ER (Rd X) (c : Thread nD τ) none (c' := (yp c : Thread nD τ))
    (src := slotOf ysM n) (dst := slotOf yrM n)
    (κ₁ := K (c, .inr (0, n))) (κ₂ := K (yp c, .inr (1, n))) (q := fullShare) (fs := sent X c)
    (r₁ := 0) (r₂ := 0) (d₁ := false) (d₂ := false) (fd := g)
    (by rw [duties_d X c 0 n]; exact Finset.mem_singleton_self _)
    (by rw [duties_d X (yp c) 1 n]; exact Finset.mem_singleton_self _)
    () () (amt 1) (amount_slot yrM n _ 1 rfl (by decide)) (amount_d X c 0 n false) (amount_d X (yp c) 1 n false)
    (dues c l) rfl (W := W) (pay_ys X c n) (pay_yr X c n g)

/-- The step that reads, rounds, stores and sends a chunk. -/
theorem step_ys (Q : PUnit.{1} → sProp 𝕄) (n : Fin 16) (l : List (Kind × Fin 16)) (p : P F) :
    iprop(known X K ∗ xP X c ∗ Pre c (.ys, n) ∗ owesE c (dues c ((.ys, n) :: l))
        ∗ ((xP X c ∗ Post X c (.ys, n) ∗ owesE c (dues c l)) -∗ WP c p Q))
      ⊢ WP c (runYs c (yp c) n >>= fun _ => p) Q := by
  unfold runYs sendTo
  simp only [Prog.lift, Prog.bind_op, Prog.bind_ret, Prog.pure_eq_ret, Prog.bind_assoc]
  unfold Pre Post owesE xP ysE yrE
  simp only
  iintro ⟨#HK, Hx, ⟨⟨%f, Hs⟩, ⟨%g, Hr⟩, Ht0, Ht1⟩, ⟨%W, HO⟩, Hk⟩
  iapply (wp_load_rect 𝒱₀ (c : Thread nD τ) none Set.univ (m := xM) (r := xRect c n) (Finset.subset_univ _)) $$ Hx
  iintro Hx
  iapply (wp_load_rect 𝒱₀ (c : Thread nD τ) none Set.univ (m := ysM) (r := slotRect n)
    (Finset.Subset.antisymm_iff.mp (slot_set cc0_scratch0 ysM n)).2) $$ Hs
  iintro Hs
  iapply (wp_store 𝒱₀ (c : Thread nD τ) none Set.univ (m := ysM) (r := slotRect n) (Mk := Finset.univ)
    (Finset.Subset.antisymm_iff.mp (slot_set cc0_scratch0 ysM n)).2) $$ Hs
  iintro Hs
  ihave Hs := (Entails.of_eq (ys_stored X c n f)) $$ Hs
  unfold ysP
  iapply (send_ys X K c Q n l _ g W) $$ [Hs Hr HO Ht0 Ht1]
  · isplitr; · iapply (inv_d X K c 0 n); iexact HK
    isplitr; · iapply (inv_d X K (yp c) 1 n); iexact HK
    isplitl [Hs]; · iexact Hs
    isplitl [Hr]; · iexact Hr
    isplitl [HO]; · iexact HO
    isplitl [Ht0]; · iexact Ht0
    isplitr; · iapply (reached_d X K c 0 n); iexact HK
    isplitl [Ht1]; · iexact Ht1
    iapply (reached_d X K (yp c) 1 n); iexact HK
  iintro ⟨Hc, HO⟩
  iapply Hk
  isplitl [Hx]; · iexact Hx
  isplitl [Hc]; · iexact Hc
  iexists W; iexact HO

/-- What a copy to the result counts. -/
theorem amount_out (M : Memref sig .tc .hbm S64x1024 .f32) (q : DmaSem sig) (k : Fin 6)
    (h : M.view.amount (.dma q) = NF) (hk : ¬ k.val < 4) :
    M.view.amount (.dma q) = amt k := by
  unfold amt; rw [if_neg hk, h]

/-- A store of this half's chunk and its copy address the same rows. -/
theorem obA_acc (d : Dev nD) (n : Fin 16) : (obM.access (obRectA d n)).set = (obA d n).view.set := rfl

/-- A store of the other half's chunk and its copy address the same rows. -/
theorem obB_acc (d : Dev nD) (n : Fin 16) : (obM.access (obRectB d n)).set = (obB d n).view.set := rfl

/-- The rows of the output buffer after the chunk received is stored in them. -/
theorem oba_stored (n : Fin 16) (f : Buf (Elt F) ((obA c n).view.loc (c : Thread nD τ))) :
    ((obA c n).view.loc (c : Thread nD τ) ↦[(obA c n).view.set]{fullShare}
        ((obM.access (obRectA c n)).write (Elt F) f
          (dec ((yrM.access (slotRect n)).read (Elt F) (sent X (yp c)))) Finset.univ) : sProp 𝕄)
      = obaP X c n := by
  unfold obaP
  refine pointsTo_congr ?_
  rw [← obA_acc c n]
  exact obA_write X c n f

/-- The rows copied to the result. -/
theorem pay_outa (n : Fin 16) (g : Buf (Elt F) ((outA c n).view.loc (c : Thread nD τ))) :
    iprop(((outA c n).view.loc (c : Thread nD τ) ↦[(outA c n).view.set]{fullShare}
        (outA c n).view.write (Elt F) g ((obA c n).view.read (Elt F) (obAt X c)) Finset.univ)
      ∗ ((obA c n).view.loc (c : Thread nD τ) ↦[(obA c n).view.set]{fullShare} obAt X c))
    ⊢ ((Rd X).payload (dCell c 4 n) 0 false : sProp 𝕄) := by
  rw [payload_d X c 4 n]
  refine Entails.of_eq ?_
  show _ = iprop(outaP X c n ∗ obaP X c n)
  unfold outaP obaP
  rw [pointsTo_congr (outA_write X c n g)]

/-- Copying the filled rows to the result. -/
theorem copy_a (Q : PUnit.{1} → sProp 𝕄) (n : Fin 16) (p : PUnit → P F)
    (g : Buf (Elt F) ((outA c n).view.loc (c : Thread nD τ)))
    {hs : (obA c n).view.WordExact} {hd : (outA c n).view.WordExact}
    {ht : DmaTarget.Typed (nD := nD) .vmem (.dma (semOf (rowOf 4) n)) (.here (p := (c : Thread nD τ).2) (outA c n))} :
    iprop(cellInv ER (Rd X) (K (c, .inr (4, n))) (dCell c 4 n) ∗ obaP X c n
        ∗ ((outA c n).view.loc (c : Thread nD τ) ↦[(outA c n).view.set]{fullShare} g)
        ∗ tok c 4 n ∗ reached ER (dCell c 4 n) 0)
      ⊢ iprop((crd c 4 n -∗ WP c (p ⟨⟩) Q)
          -∗ WP c (.op (.enqueueDma (obA c n) (.here (outA c n)) (.dma (semOf (rowOf 4) n)) hs hd ht) p) Q) :=
  Rounds.wp_copy_pointsTo 𝒱₀ ER (Rd X) (c : Thread nD τ) none (src := obA c n) (dst := outA c n)
    (κ := K (c, .inr (4, n))) (q := fullShare) (fs := obAt X c) (fd := g) (r := 0) (d := false)
    (by rw [duties_d X c 4 n]; exact Finset.mem_singleton_self _)
    () (amt 4) (amount_out _ _ 4 rfl (by decide)) (amount_d X c 4 n false) (pay_outa X c n g)

/-- The rows of the output buffer after the chunk passed on is stored in them. -/
theorem obb_stored (n : Fin 16) (f : Buf (Elt F) ((obB c n).view.loc (c : Thread nD τ))) :
    ((obB c n).view.loc (c : Thread nD τ) ↦[(obB c n).view.set]{fullShare}
        ((obM.access (obRectB c n)).write (Elt F) f
          (dec ((xrM.access (slotRect n)).read (Elt F) (sent X (yp (xp c))))) Finset.univ) : sProp 𝕄)
      = obbP X c n := by
  unfold obbP
  refine pointsTo_congr ?_
  rw [← obB_acc c n]
  exact obB_write X c n f

/-- The rows copied to the result. -/
theorem pay_outb (n : Fin 16) (g : Buf (Elt F) ((outB c n).view.loc (c : Thread nD τ))) :
    iprop(((outB c n).view.loc (c : Thread nD τ) ↦[(outB c n).view.set]{fullShare}
        (outB c n).view.write (Elt F) g ((obB c n).view.read (Elt F) (obAt X c)) Finset.univ)
      ∗ ((obB c n).view.loc (c : Thread nD τ) ↦[(obB c n).view.set]{fullShare} obAt X c))
    ⊢ ((Rd X).payload (dCell c 5 n) 0 false : sProp 𝕄) := by
  rw [payload_d X c 5 n]
  refine Entails.of_eq ?_
  show _ = iprop(outbP X c n ∗ obbP X c n)
  unfold outbP obbP
  rw [pointsTo_congr (outB_write X c n g)]

/-- Copying the filled rows to the result. -/
theorem copy_b (Q : PUnit.{1} → sProp 𝕄) (n : Fin 16) (p : PUnit → P F)
    (g : Buf (Elt F) ((outB c n).view.loc (c : Thread nD τ)))
    {hs : (obB c n).view.WordExact} {hd : (outB c n).view.WordExact}
    {ht : DmaTarget.Typed (nD := nD) .vmem (.dma (semOf (rowOf 5) n)) (.here (p := (c : Thread nD τ).2) (outB c n))} :
    iprop(cellInv ER (Rd X) (K (c, .inr (5, n))) (dCell c 5 n) ∗ obbP X c n
        ∗ ((outB c n).view.loc (c : Thread nD τ) ↦[(outB c n).view.set]{fullShare} g)
        ∗ tok c 5 n ∗ reached ER (dCell c 5 n) 0)
      ⊢ iprop((crd c 5 n -∗ WP c (p ⟨⟩) Q)
          -∗ WP c (.op (.enqueueDma (obB c n) (.here (outB c n)) (.dma (semOf (rowOf 5) n)) hs hd ht) p) Q) :=
  Rounds.wp_copy_pointsTo 𝒱₀ ER (Rd X) (c : Thread nD τ) none (src := obB c n) (dst := outB c n)
    (κ := K (c, .inr (5, n))) (q := fullShare) (fs := obAt X c) (fd := g) (r := 0) (d := false)
    (by rw [duties_d X c 5 n]; exact Finset.mem_singleton_self _)
    () (amt 5) (amount_out _ _ 5 rfl (by decide)) (amount_d X c 5 n false) (pay_outb X c n g)

/-- The chunk passed on comes back to the slot it was sent from, the share of it that was sent. -/
theorem pay_xs (n : Fin 16) : ((slotOf yrM n).view.loc (c : Thread nD τ)
      ↦[(slotOf yrM n).view.set]{fullShare.left} sent X (yp c) : sProp 𝕄)
    ⊢ (Rd X).payload (dCell c 2 n) 0 false := by
  rw [payload_d X c 2 n]; exact BI.Entails.refl _

/-- The chunk passed on lands in the other partner's slot. -/
theorem pay_xr (n : Fin 16) (g : Buf (Elt F) ((slotOf xrM n).view.loc (xp c : Thread nD τ))) :
    ((slotOf xrM n).view.loc (xp c : Thread nD τ) ↦[(slotOf xrM n).view.set]{fullShare}
      (slotOf xrM n).view.write (Elt F) g ((slotOf yrM n).view.read (Elt F) (sent X (yp c))) Finset.univ : sProp 𝕄)
    ⊢ (Rd X).payload (dCell (xp c) 3 n) 0 false := by
  rw [payload_d X (xp c) 3 n]
  refine Entails.of_eq ?_
  show _ = xrP X (xp c) n
  unfold xrP
  rw [xp_xp]
  exact pointsTo_congr (yrxr_write n (sent X (yp c)) g)

/-- Passing a received chunk on to the other partner. -/
theorem send_yr (Q : PUnit.{1} → sProp 𝕄) (n : Fin 16) (l : List (Kind × Fin 16)) (p : PUnit → P F)
    (g : Buf (Elt F) ((slotOf xrM n).view.loc (xp c : Thread nD τ))) (W : Waits sig Unit)
    {hsc : (slotOf xrM n).view.ref.isScScratch = false} {hs : (slotOf yrM n).view.WordExact}
    {hd : (slotOf xrM n).view.WordExact}
    {ht : DmaTarget.Typed .vmem (.dma (semOf cc0_scratch7 n))
      (.remote (xp c : Thread nD τ) (slotOf xrM n) (.dma (semOf cc0_scratch6 n)) hsc)} :
    iprop(cellInv ER (Rd X) (K (c, .inr (2, n))) (dCell c 2 n)
        ∗ cellInv ER (Rd X) (K (xp c, .inr (3, n))) (dCell (xp c) 3 n)
        ∗ yrP X fullShare.left c n
        ∗ ((slotOf xrM n).view.loc (xp c : Thread nD τ) ↦[(slotOf xrM n).view.set]{fullShare} g)
        ∗ owes (c : Thread nD τ) (dues c ((.yr, n) :: l)) W
        ∗ tok c 2 n ∗ reached ER (dCell c 2 n) 0
        ∗ tok (xp c) 3 n ∗ reached ER (dCell (xp c) 3 n) 0)
      ⊢ iprop(((crd c 2 n ∗ owes (c : Thread nD τ) (dues c l) W) -∗ WP c (p ⟨⟩) Q)
          -∗ WP c (.op (.enqueueDma (slotOf yrM n) (.remote (xp c : Thread nD τ) (slotOf xrM n)
              (.dma (semOf cc0_scratch6 n)) hsc) (.dma (semOf cc0_scratch7 n)) hs hd ht) p) Q) :=
  Rounds.wp_send_pointsTo 𝒱₀ ER (Rd X) (c : Thread nD τ) none (c' := (xp c : Thread nD τ))
    (src := slotOf yrM n) (dst := slotOf xrM n)
    (κ₁ := K (c, .inr (2, n))) (κ₂ := K (xp c, .inr (3, n))) (q := fullShare.left) (fs := sent X (yp c))
    (r₁ := 0) (r₂ := 0) (d₁ := false) (d₂ := false) (fd := g)
    (by rw [duties_d X c 2 n]; exact Finset.mem_singleton_self _)
    (by rw [duties_d X (xp c) 3 n]; exact Finset.mem_singleton_self _)
    () () (amt 3) (amount_slot xrM n _ 3 rfl (by decide)) (amount_d X c 2 n false) (amount_d X (xp c) 3 n false)
    (dues c l) rfl (W := W) (pay_xs X c n) (pay_xr X c n g)

/-- A received slot splits into the share that is sent and the share that is read. -/
theorem yr_split (n : Fin 16) :
    yrP X fullShare c n ⊢ (iprop(yrP X fullShare.left c n ∗ yrP X fullShare.right c n) : sProp 𝕄) := by
  unfold yrP
  exact (pointsTo_share (PosShare.mem_left_op_right fullShare)).1

/-- and back. -/
theorem yr_join (n : Fin 16) :
    (iprop(yrP X fullShare.left c n ∗ yrP X fullShare.right c n) : sProp 𝕄) ⊢ yrP X fullShare c n := by
  unfold yrP
  exact (pointsTo_share (PosShare.mem_left_op_right fullShare)).2

/-- The step that receives a chunk, passes it on and writes it to its rows. -/
theorem step_yr (Q : PUnit.{1} → sProp 𝕄) (n : Fin 16) (l : List (Kind × Fin 16)) (p : P F)
    (hl : ∀ b ∈ (Kind.yr, n) :: l, waitRank (.yr, n) < dueRank b) :
    iprop(known X K ∗ xP X c ∗ Pre c (.yr, n) ∗ owesE c (dues c ((.yr, n) :: l))
        ∗ ((xP X c ∗ Post X c (.yr, n) ∗ owesE c (dues c l)) -∗ WP c p Q))
      ⊢ WP c (runYr c (xp c) n >>= fun _ => p) Q := by
  unfold runYr sendTo waitSlot
  simp only [Prog.lift, Prog.bind_op, Prog.bind_ret, Prog.pure_eq_ret, Prog.bind_assoc]
  unfold Pre Post xrE obaE outaE
  simp only
  iintro ⟨#HK, Hx, ⟨Hat, Hc, ⟨%g, Hxr⟩, Ht2, Ht3, ⟨%f, Hob⟩, ⟨%h, Hout⟩, Ht4⟩, HO, Hk⟩
  iapply (wait_d X K c Q 1 n ((.yr, n) :: l) (src := slotOf ysM n) (dst := slotOf yrM n) rfl hl _) $$ [Hat Hc HO]
  · isplitr; · iexact HK
    isplitl [Hat]; · iexact Hat
    isplitl [Hc]; · iexact Hc
    iexact HO
  iintro ⟨Hp, Hz, HO⟩
  ihave Hp := (show pay X c 1 n ⊢ _ from yr_split X c n) $$ Hp
  icases Hp with ⟨Hl, Hr⟩
  unfold owesE
  icases HO with ⟨%W, HO⟩
  iapply (send_yr X K c Q n l _ g W) $$ [Hl Hxr HO Ht2 Ht3]
  · isplitr; · iapply (inv_d X K c 2 n); iexact HK
    isplitr; · iapply (inv_d X K (xp c) 3 n); iexact HK
    isplitl [Hl]; · iexact Hl
    isplitl [Hxr]; · iexact Hxr
    isplitl [HO]; · iexact HO
    isplitl [Ht2]; · iexact Ht2
    isplitr; · iapply (reached_d X K c 2 n); iexact HK
    isplitl [Ht3]; · iexact Ht3
    iapply (reached_d X K (xp c) 3 n); iexact HK
  iintro ⟨Hcx, HO⟩
  ihave Hr := (show yrP X fullShare.right c n ⊢ ((slotOf yrM n).view.loc (c : Thread nD τ)
    ↦[(slotOf yrM n).view.set]{fullShare.right} sent X (yp c)) from BI.Entails.refl _) $$ Hr
  iapply (wp_load_rect 𝒱₀ (c : Thread nD τ) none Set.univ (m := yrM) (r := slotRect n)
    (Finset.Subset.antisymm_iff.mp (slot_set cc0_scratch1 yrM n)).2) $$ Hr
  iintro Hr
  iapply (wp_load_rect 𝒱₀ (c : Thread nD τ) none Set.univ (m := obM) (r := obRectA c n)
    (Finset.Subset.antisymm_iff.mp (obA_acc c n)).1) $$ Hob
  iintro Hob
  iapply (wp_store 𝒱₀ (c : Thread nD τ) none Set.univ (m := obM) (r := obRectA c n) (Mk := Finset.univ)
    (Finset.Subset.antisymm_iff.mp (obA_acc c n)).1) $$ Hob
  iintro Hob
  ihave Hob := (Entails.of_eq (oba_stored X c n f)) $$ Hob
  iapply (copy_a X K c Q n _ h) $$ [Hob Hout Ht4]
  · isplitr; · iapply (inv_d X K c 4 n); iexact HK
    isplitl [Hob]; · iexact Hob
    isplitl [Hout]; · iexact Hout
    isplitl [Ht4]; · iexact Ht4
    iapply (reached_d X K c 4 n); iexact HK
  iintro Hco
  iapply Hk
  isplitl [Hx]; · iexact Hx
  isplitl [Hz Hcx Hr Hco]
  · isplitl [Hz]; · iexact Hz
    isplitl [Hcx]; · iexact Hcx
    isplitl [Hr]; · unfold yrP; iexact Hr
    iexact Hco
  iexists W; iexact HO

/-- The step that receives a passed-on chunk and writes it to its rows. -/
theorem step_xr (Q : PUnit.{1} → sProp 𝕄) (n : Fin 16) (l : List (Kind × Fin 16)) (p : P F)
    (hl : ∀ b ∈ (Kind.xr, n) :: l, waitRank (.xr, n) < dueRank b) :
    iprop(known X K ∗ xP X c ∗ Pre c (.xr, n) ∗ owesE c (dues c ((.xr, n) :: l))
        ∗ ((xP X c ∗ Post X c (.xr, n) ∗ owesE c (dues c l)) -∗ WP c p Q))
      ⊢ WP c (runXr c n >>= fun _ => p) Q := by
  unfold runXr waitSlot
  simp only [Prog.lift, Prog.bind_op, Prog.bind_ret, Prog.pure_eq_ret, Prog.bind_assoc]
  rw [dues_zero c (.xr, n) l rfl]
  unfold Pre Post obbE outbE
  simp only
  iintro ⟨#HK, Hx, ⟨Hat, Hc, ⟨%f, Hob⟩, ⟨%h, Hout⟩, Ht5⟩, HO, Hk⟩
  iapply (wait_d X K c Q 3 n l (src := slotOf yrM n) (dst := slotOf xrM n) rfl (fun b hb => hl b (List.mem_cons_of_mem _ hb)) _) $$ [Hat Hc HO]
  · isplitr; · iexact HK
    isplitl [Hat]; · iexact Hat
    isplitl [Hc]; · iexact Hc
    iexact HO
  iintro ⟨Hp, Hz, HO⟩
  ihave Hr := (show pay X c 3 n ⊢ ((slotOf xrM n).view.loc (c : Thread nD τ)
    ↦[(slotOf xrM n).view.set]{fullShare} sent X (yp (xp c))) from BI.Entails.refl _) $$ Hp
  iapply (wp_load_rect 𝒱₀ (c : Thread nD τ) none Set.univ (m := xrM) (r := slotRect n)
    (Finset.Subset.antisymm_iff.mp (slot_set cc0_scratch2 xrM n)).2) $$ Hr
  iintro Hr
  iapply (wp_load_rect 𝒱₀ (c : Thread nD τ) none Set.univ (m := obM) (r := obRectB c n)
    (Finset.Subset.antisymm_iff.mp (obB_acc c n)).1) $$ Hob
  iintro Hob
  iapply (wp_store 𝒱₀ (c : Thread nD τ) none Set.univ (m := obM) (r := obRectB c n) (Mk := Finset.univ)
    (Finset.Subset.antisymm_iff.mp (obB_acc c n)).1) $$ Hob
  iintro Hob
  ihave Hob := (Entails.of_eq (obb_stored X c n f)) $$ Hob
  iapply (copy_b X K c Q n _ h) $$ [Hob Hout Ht5]
  · isplitr; · iapply (inv_d X K c 5 n); iexact HK
    isplitl [Hob]; · iexact Hob
    isplitl [Hout]; · iexact Hout
    isplitl [Ht5]; · iexact Ht5
    iapply (reached_d X K c 5 n); iexact HK
  iintro Hco
  iapply Hk
  isplitl [Hx]; · iexact Hx
  isplitl [Hz Hr Hco]
  · isplitl [Hz]; · iexact Hz
    isplitl [Hr]; · unfold xrP; iexact Hr
    iexact Hco
  iexact HO

/-- The wait for the copy of received rows to the result. -/
theorem step_oy (Q : PUnit.{1} → sProp 𝕄) (n : Fin 16) (l : List (Kind × Fin 16)) (p : P F)
    (hl : ∀ b ∈ (Kind.oy, n) :: l, waitRank (.oy, n) < dueRank b) :
    iprop(known X K ∗ xP X c ∗ Pre c (.oy, n) ∗ owesE c (dues c ((.oy, n) :: l))
        ∗ ((xP X c ∗ Post X c (.oy, n) ∗ owesE c (dues c l)) -∗ WP c p Q))
      ⊢ WP c (run c (yp c) (xp c) (.oy, n) >>= fun _ => p) Q := by
  unfold run
  simp only [waitSlot, Prog.lift, Prog.bind_op, Prog.bind_ret, Prog.pure_eq_ret, Prog.bind_assoc]
  rw [dues_zero c (.oy, n) l rfl]
  unfold Pre Post
  simp only
  iintro ⟨#HK, Hx, ⟨Hat, Hc⟩, HO, Hk⟩
  iapply (wait_d X K c Q 4 n l (src := obA c n) (dst := outA c n) rfl
    (fun b hb => hl b (List.mem_cons_of_mem _ hb)) _) $$ [Hat Hc HO]
  · isplitr; · iexact HK
    isplitl [Hat]; · iexact Hat
    isplitl [Hc]; · iexact Hc
    iexact HO
  iintro ⟨Hp, Hz, HO⟩
  ihave Hp := (show pay X c 4 n ⊢ iprop(outaP X c n ∗ obaP X c n) from BI.Entails.refl _) $$ Hp
  iapply Hk
  isplitl [Hx]; · iexact Hx
  isplitl [Hp Hz]
  · isplitl [Hz]; · iexact Hz
    iexact Hp
  iexact HO

/-- The wait for the copy of passed-on rows to the result. -/
theorem step_ox (Q : PUnit.{1} → sProp 𝕄) (n : Fin 16) (l : List (Kind × Fin 16)) (p : P F)
    (hl : ∀ b ∈ (Kind.ox, n) :: l, waitRank (.ox, n) < dueRank b) :
    iprop(known X K ∗ xP X c ∗ Pre c (.ox, n) ∗ owesE c (dues c ((.ox, n) :: l))
        ∗ ((xP X c ∗ Post X c (.ox, n) ∗ owesE c (dues c l)) -∗ WP c p Q))
      ⊢ WP c (run c (yp c) (xp c) (.ox, n) >>= fun _ => p) Q := by
  unfold run
  simp only [waitSlot, Prog.lift, Prog.bind_op, Prog.bind_ret, Prog.pure_eq_ret, Prog.bind_assoc]
  rw [dues_zero c (.ox, n) l rfl]
  unfold Pre Post
  simp only
  iintro ⟨#HK, Hx, ⟨Hat, Hc⟩, HO, Hk⟩
  iapply (wait_d X K c Q 5 n l (src := obB c n) (dst := outB c n) rfl
    (fun b hb => hl b (List.mem_cons_of_mem _ hb)) _) $$ [Hat Hc HO]
  · isplitr; · iexact HK
    isplitl [Hat]; · iexact Hat
    isplitl [Hc]; · iexact Hc
    iexact HO
  iintro ⟨Hp, Hz, HO⟩
  ihave Hp := (show pay X c 5 n ⊢ iprop(outbP X c n ∗ obbP X c n) from BI.Entails.refl _) $$ Hp
  iapply Hk
  isplitl [Hx]; · iexact Hx
  isplitl [Hp Hz]
  · isplitl [Hz]; · iexact Hz
    iexact Hp
  iexact HO

/-- The wait for a chunk sent to be away. -/
theorem step_wys (Q : PUnit.{1} → sProp 𝕄) (n : Fin 16) (l : List (Kind × Fin 16)) (p : P F)
    (hl : ∀ b ∈ (Kind.wys, n) :: l, waitRank (.wys, n) < dueRank b) :
    iprop(known X K ∗ xP X c ∗ Pre c (.wys, n) ∗ owesE c (dues c ((.wys, n) :: l))
        ∗ ((xP X c ∗ Post X c (.wys, n) ∗ owesE c (dues c l)) -∗ WP c p Q))
      ⊢ WP c (run c (yp c) (xp c) (.wys, n) >>= fun _ => p) Q := by
  unfold run
  simp only [waitSlot, Prog.lift, Prog.bind_op, Prog.bind_ret, Prog.pure_eq_ret, Prog.bind_assoc]
  rw [dues_zero c (.wys, n) l rfl]
  unfold Pre Post
  simp only
  iintro ⟨#HK, Hx, ⟨Hat, Hc⟩, HO, Hk⟩
  iapply (wait_d X K c Q 0 n l (src := slotOf yrM n) (dst := slotOf ysM n) rfl
    (fun b hb => hl b (List.mem_cons_of_mem _ hb)) _) $$ [Hat Hc HO]
  · isplitr; · iexact HK
    isplitl [Hat]; · iexact Hat
    isplitl [Hc]; · iexact Hc
    iexact HO
  iintro ⟨Hp, Hz, HO⟩
  ihave Hp := (show pay X c 0 n ⊢ ysP X c n from BI.Entails.refl _) $$ Hp
  iapply Hk
  isplitl [Hx]; · iexact Hx
  isplitl [Hp Hz]
  · isplitl [Hz]; · iexact Hz
    iexact Hp
  iexact HO

/-- The wait for a chunk passed on to be away. -/
theorem step_wxs (Q : PUnit.{1} → sProp 𝕄) (n : Fin 16) (l : List (Kind × Fin 16)) (p : P F)
    (hl : ∀ b ∈ (Kind.wxs, n) :: l, waitRank (.wxs, n) < dueRank b) :
    iprop(known X K ∗ xP X c ∗ Pre c (.wxs, n) ∗ owesE c (dues c ((.wxs, n) :: l))
        ∗ ((xP X c ∗ Post X c (.wxs, n) ∗ owesE c (dues c l)) -∗ WP c p Q))
      ⊢ WP c (run c (yp c) (xp c) (.wxs, n) >>= fun _ => p) Q := by
  unfold run
  simp only [waitSlot, Prog.lift, Prog.bind_op, Prog.bind_ret, Prog.pure_eq_ret, Prog.bind_assoc]
  rw [dues_zero c (.wxs, n) l rfl]
  unfold Pre Post
  simp only
  iintro ⟨#HK, Hx, ⟨Hat, Hc⟩, HO, Hk⟩
  iapply (wait_d X K c Q 2 n l (src := slotOf xrM n) (dst := slotOf yrM n) rfl
    (fun b hb => hl b (List.mem_cons_of_mem _ hb)) _) $$ [Hat Hc HO]
  · isplitr; · iexact HK
    isplitl [Hat]; · iexact Hat
    isplitl [Hc]; · iexact Hc
    iexact HO
  iintro ⟨Hp, Hz, HO⟩
  ihave Hp := (show pay X c 2 n ⊢ yrP X fullShare.left c n from BI.Entails.refl _) $$ Hp
  iapply Hk
  isplitl [Hx]; · iexact Hx
  isplitl [Hp Hz]
  · isplitl [Hz]; · iexact Hz
    iexact Hp
  iexact HO

/-- Every step, from what it takes to what it leaves. -/
theorem step (Q : PUnit.{1} → sProp 𝕄) (a : Kind × Fin 16) (l : List (Kind × Fin 16)) (p : P F)
    (hl : ∀ b ∈ a :: l, waitRank a < dueRank b) :
    iprop(known X K ∗ xP X c ∗ Pre c a ∗ owesE c (dues c (a :: l))
        ∗ ((xP X c ∗ Post X c a ∗ owesE c (dues c l)) -∗ WP c p Q))
      ⊢ WP c (run c (yp c) (xp c) a >>= fun _ => p) Q := by
  obtain ⟨k, n⟩ := a
  cases k
  case ys => exact step_ys X K c Q n l p
  case yr => exact step_yr X K c Q n l p hl
  case xr => exact step_xr X K c Q n l p hl
  case oy => exact step_oy X K c Q n l p hl
  case ox => exact step_ox X K c Q n l p hl
  case wys => exact step_wys X K c Q n l p hl
  case wxs => exact step_wxs X K c Q n l p hl

/-- Whether every wait of a list of steps is below everything still to be paid. -/
def Fine : List (Kind × Fin 16) → Prop
  | [] => True
  | a :: l => (∀ b ∈ a :: l, waitRank a < dueRank b) ∧ Fine l

/-- The order of waits of a list of steps can be checked. -/
instance fineDecidable : (l : List (Kind × Fin 16)) → Decidable (Fine l)
  | [] => .isTrue trivial
  | a :: l => @instDecidableAnd _ _ (List.decidableBAll _ _) (fineDecidable l)

/-- The steps of the body never wait below a payment. -/
theorem fine_steps : Fine steps := by decide +kernel

/-- What follows a prefix of well ordered steps is well ordered. -/
theorem fine_drop {l l' : List (Kind × Fin 16)} (h : Fine (l ++ l')) : Fine l' := by
  induction l with
  | nil => exact h
  | cons a l ih => exact ih h.2

/-- A list of steps, from what they take to what they leave. -/
theorem loop (Q : PUnit.{1} → sProp 𝕄) (l l' : List (Kind × Fin 16)) (hl : Fine (l ++ l')) :
    iprop(known X K ∗ xP X c ∗ bigSepL l (Pre (F := F) c) ∗ owesE c (dues c (l ++ l'))
        ∗ ((xP X c ∗ bigSepL l (Post X c) ∗ owesE c (dues c l'))
          -∗ WP c (runs c (yp c) (xp c) l') Q))
      ⊢ WP c (runs c (yp c) (xp c) (l ++ l')) Q := by
  induction l with
  | nil =>
    iintro ⟨-, Hx, -, HO, Hk⟩
    iapply Hk
    isplitl [Hx]; · iexact Hx
    isplitr; · rw [bigSepL_nil]; iempintro
    iexact HO
  | cons a l ih =>
    show _ ⊢ WP c (run c (yp c) (xp c) a >>= fun _ => runs c (yp c) (xp c) (l ++ l')) Q
    rw [bigSepL_cons', bigSepL_cons']
    iintro ⟨#HK, Hx, ⟨Ha, Hl⟩, HO, Hk⟩
    iapply (step X K c Q a (l ++ l') _ hl.1)
    isplitr; · iexact HK
    isplitl [Hx]; · iexact Hx
    isplitl [Ha]; · iexact Ha
    isplitl [HO]; · iexact HO
    iintro ⟨Hx, Ha, HO⟩
    iapply (ih hl.2)
    isplitr; · iexact HK
    isplitl [Hx]; · iexact Hx
    isplitl [Hl]; · iexact Hl
    isplitl [HO]; · iexact HO
    iintro ⟨Hx, Hl, HO⟩
    iapply Hk
    isplitl [Hx]; · iexact Hx
    isplitl [Ha Hl]
    · isplitl [Ha]; · iexact Ha
      iexact Hl
    iexact HO

end Step

end Cert.KernelIdeal.Swap
-- ==== Proof.Pieces.lean ====
module

public import proofs.«01_k».proof.Proof.Steps
public import Idealize.ShloMosaic.Lib.Ring

/-! The buffers cut into the pieces the steps take, and put together again. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Cert.KernelIdeal.Gen

variable {F : FTy → Type} [FloatOps F]

local notation "𝕄" => MT nD τ sig Unit (Elt F) ℕ UU ℕ

/-! ## Which elements a piece has -/

/-- Slot `n` has the elements whose first coordinate is `n`. -/
theorem mem_slot (n : Fin 16) (i : S16x64x1024.Idx) : i ∈ (slotRect n).set ↔ (i 0).val = n.val := by
  rw [Rect.mem_set_unit]
  have h1 : (i 1).val < 64 := (i 1).isLt
  have h2 : (i 2).val < 1024 := (i 2).isLt
  constructor
  · intro h
    have h0 : n.val ≤ (i 0).val ∧ (i 0).val < n.val + 1 := h 0
    omega
  · intro h a
    fin_cases a
    · show n.val ≤ (i 0).val ∧ (i 0).val < n.val + 1
      omega
    · show 0 ≤ (i 1).val ∧ (i 1).val < 0 + 64
      omega
    · show 0 ≤ (i 2).val ∧ (i 2).val < 0 + 1024
      omega

/-- Different slots share no element. -/
theorem slot_disj (n n' : Fin 16) (h : n ≠ n') : Disjoint (slotRect n).set (slotRect n').set :=
  Finset.disjoint_left.mpr fun i hi hi' =>
    h (Fin.ext (((mem_slot n i).mp hi).symm.trans ((mem_slot n' i).mp hi')))

/-- The slots make up the buffer. -/
theorem slot_cover : (Finset.univ : Finset (Fin 16)).biUnion (fun n => (slotRect n).set) = Finset.univ := by
  refine Finset.eq_univ_of_forall fun i => ?_
  have h0 : (i 0).val < 16 := (i 0).isLt
  exact Finset.mem_biUnion.mpr ⟨⟨(i 0).val, h0⟩, Finset.mem_univ _, (mem_slot _ i).mpr rfl⟩

/-- A block of 64 rows has the elements whose row lies in it. -/
theorem mem_rows {off : Fin 2 → Nat} {inb} (r : Nat) (h : off = ![r, 0]) (i : S2048x1024.Idx) :
    i ∈ (Rect.unit (s := S2048x1024) off S64x1024.size inb).set ↔ r ≤ (i 0).val ∧ (i 0).val < r + 64 := by
  subst h
  rw [Rect.mem_set_unit]
  have h1 : (i 1).val < 1024 := (i 1).isLt
  constructor
  · intro h
    exact h 0
  · intro h a
    fin_cases a
    · exact h
    · show 0 ≤ (i 1).val ∧ (i 1).val < 0 + 1024
      omega

/-- The same in the result. -/
theorem mem_rows3 {off : Fin 3 → Nat} {inb} (r : Nat) (h : off = ![0, r, 0]) (i : S1x2048x1024.Idx) :
    i ∈ (Rect.unit (s := S1x2048x1024) off S1x64x1024.size inb).set ↔ r ≤ (i 1).val ∧ (i 1).val < r + 64 := by
  subst h
  rw [Rect.mem_set_unit]
  have h0 : (i 0).val < 1 := (i 0).isLt
  have h2 : (i 2).val < 1024 := (i 2).isLt
  constructor
  · intro h
    exact h 1
  · intro h a
    fin_cases a
    · show 0 ≤ (i 0).val ∧ (i 0).val < 0 + 1
      omega
    · exact h
    · show 0 ≤ (i 2).val ∧ (i 2).val < 0 + 1024
      omega

/-- The output buffer's rows of this half's chunk `n`, by their numbers. -/
theorem mem_obA (c : Dev nD) (n : Fin 16) (i : S2048x1024.Idx) : i ∈ (obA c n).view.set ↔
    1024 * half c + 64 * n.val ≤ (i 0).val ∧ (i 0).val < 1024 * half c + 64 * n.val + 64 := by
  rw [obA_set]; exact mem_rows _ (off3_eq c n) i

/-- The output buffer's rows of the other half's chunk `n`, by their numbers. -/
theorem mem_obB (c : Dev nD) (n : Fin 16) (i : S2048x1024.Idx) : i ∈ (obB c n).view.set ↔
    1024 * (1 - half c) + 64 * n.val ≤ (i 0).val ∧ (i 0).val < 1024 * (1 - half c) + 64 * n.val + 64 := by
  rw [obB_set]; exact mem_rows _ (off6_eq c n) i

/-- The result's rows of this half's chunk `n`, by their numbers. -/
theorem mem_outA (c : Dev nD) (n : Fin 16) (i : S1x2048x1024.Idx) : i ∈ (outA c n).view.set ↔
    1024 * half c + 64 * n.val ≤ (i 1).val ∧ (i 1).val < 1024 * half c + 64 * n.val + 64 := by
  rw [show (outA c n).view.set = (Rect.unit (s := S1x2048x1024) (k0_off4 c (wd n)) S1x64x1024.size
    (k0_off4_inb c n)).set from (View.set_reshape _ _).trans (View.set_slice_whole _ _)]
  exact mem_rows3 _ (off4_eq c n) i

/-- The result's rows of the other half's chunk `n`, by their numbers. -/
theorem mem_outB (c : Dev nD) (n : Fin 16) (i : S1x2048x1024.Idx) : i ∈ (outB c n).view.set ↔
    1024 * (1 - half c) + 64 * n.val ≤ (i 1).val ∧ (i 1).val < 1024 * (1 - half c) + 64 * n.val + 64 := by
  rw [show (outB c n).view.set = (Rect.unit (s := S1x2048x1024) (k0_off7 c (wd n)) S1x64x1024.size
    (k0_off7_inb c n)).set from (View.set_reshape _ _).trans (View.set_slice_whole _ _)]
  exact mem_rows3 _ (off7_eq c n) i

/-- The rows of the output buffer, both halves. -/
abbrev obRows (c : Dev nD) : Fin 16 ⊕ Fin 16 → Finset S2048x1024.Idx :=
  Sum.elim (fun n => (obA c n).view.set) (fun n => (obB c n).view.set)
/-- The rows of the result, both halves. -/
abbrev outRows (c : Dev nD) : Fin 16 ⊕ Fin 16 → Finset S1x2048x1024.Idx :=
  Sum.elim (fun n => (outA c n).view.set) (fun n => (outB c n).view.set)

/-- The first row of a block of rows. -/
def first (c : Dev nD) : Fin 16 ⊕ Fin 16 → Nat :=
  Sum.elim (fun n => 1024 * half c + 64 * n.val) (fun n => 1024 * (1 - half c) + 64 * n.val)

/-- A block of rows of the output buffer, by their numbers. -/
theorem mem_obRows (c : Dev nD) (b : Fin 16 ⊕ Fin 16) (i : S2048x1024.Idx) :
    i ∈ obRows c b ↔ first c b ≤ (i 0).val ∧ (i 0).val < first c b + 64 := by
  rcases b with n | n
  · exact mem_obA c n i
  · exact mem_obB c n i

/-- A block of rows of the result, by their numbers. -/
theorem mem_outRows (c : Dev nD) (b : Fin 16 ⊕ Fin 16) (i : S1x2048x1024.Idx) :
    i ∈ outRows c b ↔ first c b ≤ (i 1).val ∧ (i 1).val < first c b + 64 := by
  rcases b with n | n
  · exact mem_outA c n i
  · exact mem_outB c n i

/-- Two blocks sharing a row are one block. -/
theorem first_inj (c : Dev nD) (b b' : Fin 16 ⊕ Fin 16) (r : Nat) (h : first c b ≤ r ∧ r < first c b + 64)
    (h' : first c b' ≤ r ∧ r < first c b' + 64) : b = b' := by
  have hh := half_lt c
  unfold first at h h'
  rcases b with n | n <;> rcases b' with n' | n' <;> simp only [Sum.elim_inl, Sum.elim_inr] at h h' <;>
    have := n.isLt <;> have := n'.isLt
  · exact congrArg Sum.inl (Fin.ext (by omega))
  · omega
  · omega
  · exact congrArg Sum.inr (Fin.ext (by omega))

/-- Every row is in a block. -/
theorem first_cover (c : Dev nD) (r : Nat) (h : r < 2048) : ∃ b, first c b ≤ r ∧ r < first c b + 64 := by
  have hh := half_lt c
  by_cases hr : r / 1024 = half c
  · refine ⟨.inl ⟨(r % 1024) / 64, by omega⟩, ?_⟩
    show 1024 * half c + 64 * ((r % 1024) / 64) ≤ r ∧ r < 1024 * half c + 64 * ((r % 1024) / 64) + 64
    omega
  · refine ⟨.inr ⟨(r % 1024) / 64, by omega⟩, ?_⟩
    show 1024 * (1 - half c) + 64 * ((r % 1024) / 64) ≤ r ∧ r < 1024 * (1 - half c) + 64 * ((r % 1024) / 64) + 64
    omega

/-- Different blocks of the output buffer share no element. -/
theorem ob_disj (c : Dev nD) (b b' : Fin 16 ⊕ Fin 16) (h : b ≠ b') : Disjoint (obRows c b) (obRows c b') :=
  Finset.disjoint_left.mpr fun i hi hi' =>
    h (first_inj c b b' _ ((mem_obRows c b i).mp hi) ((mem_obRows c b' i).mp hi'))

/-- Different blocks of the result share no element. -/
theorem out_disj (c : Dev nD) (b b' : Fin 16 ⊕ Fin 16) (h : b ≠ b') : Disjoint (outRows c b) (outRows c b') :=
  Finset.disjoint_left.mpr fun i hi hi' =>
    h (first_inj c b b' _ ((mem_outRows c b i).mp hi) ((mem_outRows c b' i).mp hi'))

/-- The blocks make up the output buffer. -/
theorem ob_cover (c : Dev nD) : Finset.univ.biUnion (obRows c) = Finset.univ :=
  Finset.eq_univ_of_forall fun i => by
    obtain ⟨b, hb⟩ := first_cover c (i 0).val (i 0).isLt
    exact Finset.mem_biUnion.mpr ⟨b, Finset.mem_univ _, (mem_obRows c b i).mpr hb⟩

/-- The blocks make up the result. -/
theorem out_cover (c : Dev nD) : Finset.univ.biUnion (outRows c) = Finset.univ :=
  Finset.eq_univ_of_forall fun i => by
    obtain ⟨b, hb⟩ := first_cover c (i 1).val (i 1).isLt
    exact Finset.mem_biUnion.mpr ⟨b, Finset.mem_univ _, (mem_outRows c b i).mpr hb⟩

/-! ## Cutting and joining -/

variable (X : Dev nD → Vec F S1x2048x1024 .f32) (c : Dev nD)

/-- A buffer held whole, with any contents. -/
abbrev anyOf (c : Dev nD) (b : Ref sig .tc) : sProp 𝕄 :=
  iprop(∃ f : Buf (Elt F) ((c : Thread nD τ).loc b), ((c : Thread nD τ).loc b) ↦{fullShare} f)

/-- A family over a sum type is a family over each side. -/
theorem univ_sum {A B : Type} [Fintype A] [Fintype B] (Φ : A ⊕ B → sProp 𝕄) :
    bigSep Finset.univ Φ = iprop((bigSep Finset.univ fun a => Φ (.inl a)) ∗ bigSep Finset.univ fun b => Φ (.inr b)) :=
  BI.bigSep_univ_sum Φ

/-- Elements held with given contents are held with some contents. -/
theorem to_any (ℓ : Loc nD τ sig) (S : Finset (Idx ℓ)) (f : Buf (Elt F) ℓ) :
    (ℓ ↦[S]{fullShare} f : sProp 𝕄) ⊢ iprop(∃ g : Buf (Elt F) ℓ, ℓ ↦[S]{fullShare} g) := by
  iintro H; iexists f; iexact H

/-- The sending buffer, cut into slots. -/
theorem ys_cut : anyOf c cc0_scratch0 ⊢ (bigSep Finset.univ fun n => ysE c n : sProp 𝕄) := by
  iintro ⟨%f, H⟩
  ihave H := (Entails.of_eq (pointsTo_blocks (ℓ := (c : Thread nD τ).loc cc0_scratch0)
    (fun n : Fin 16 => (slotRect n).set) slot_disj slot_cover f)) $$ H
  iapply (show (bigSep Finset.univ fun n : Fin 16 => (((c : Thread nD τ).loc cc0_scratch0)
    ↦[(slotRect n).set]{fullShare} f : sProp 𝕄)) ⊢ _ from bigSep_mono fun n _ => by
      unfold ysE; rw [ys_set]; exact to_any _ _ f)
  iexact H

/-- The first receiving buffer, cut into slots. -/
theorem yr_cut : anyOf c cc0_scratch1 ⊢ (bigSep Finset.univ fun n => yrE c n : sProp 𝕄) := by
  iintro ⟨%f, H⟩
  ihave H := (Entails.of_eq (pointsTo_blocks (ℓ := (c : Thread nD τ).loc cc0_scratch1)
    (fun n : Fin 16 => (slotRect n).set) slot_disj slot_cover f)) $$ H
  iapply (show (bigSep Finset.univ fun n : Fin 16 => (((c : Thread nD τ).loc cc0_scratch1)
    ↦[(slotRect n).set]{fullShare} f : sProp 𝕄)) ⊢ _ from bigSep_mono fun n _ => by
      unfold yrE; rw [yr_set]; exact to_any _ _ f)
  iexact H

/-- The second receiving buffer, cut into slots. -/
theorem xr_cut : anyOf c cc0_scratch2 ⊢ (bigSep Finset.univ fun n => xrE c n : sProp 𝕄) := by
  iintro ⟨%f, H⟩
  ihave H := (Entails.of_eq (pointsTo_blocks (ℓ := (c : Thread nD τ).loc cc0_scratch2)
    (fun n : Fin 16 => (slotRect n).set) slot_disj slot_cover f)) $$ H
  iapply (show (bigSep Finset.univ fun n : Fin 16 => (((c : Thread nD τ).loc cc0_scratch2)
    ↦[(slotRect n).set]{fullShare} f : sProp 𝕄)) ⊢ _ from bigSep_mono fun n _ => by
      unfold xrE; rw [xr_set]; exact to_any _ _ f)
  iexact H

/-- The output buffer, cut into the rows of the chunks. -/
theorem ob_cut : anyOf c cc0_scratch3 ⊢ (iprop((bigSep Finset.univ fun n => obaE c n)
    ∗ (bigSep Finset.univ fun n => obbE c n)) : sProp 𝕄) := by
  iintro ⟨%f, H⟩
  ihave H := (Entails.of_eq ((pointsTo_blocks (ℓ := (c : Thread nD τ).loc cc0_scratch3)
    (obRows c) (ob_disj c) (ob_cover c) f).trans (univ_sum _))) $$ H
  icases H with ⟨Ha, Hb⟩
  isplitl [Ha]
  · iapply (show (bigSep Finset.univ fun n : Fin 16 => (((c : Thread nD τ).loc cc0_scratch3)
      ↦[(obA c n).view.set]{fullShare} f : sProp 𝕄)) ⊢ _ from bigSep_mono fun n _ => by
        unfold obaE; exact to_any _ _ f)
    iexact Ha
  · iapply (show (bigSep Finset.univ fun n : Fin 16 => (((c : Thread nD τ).loc cc0_scratch3)
      ↦[(obB c n).view.set]{fullShare} f : sProp 𝕄)) ⊢ _ from bigSep_mono fun n _ => by
        unfold obbE; exact to_any _ _ f)
    iexact Hb

/-- The result, cut into the rows of the chunks. -/
theorem out_cut (f : Buf (Elt F) ((c : Thread nD τ).loc main_v1)) :
    (((c : Thread nD τ).loc main_v1) ↦{fullShare} f) ⊢ (iprop((bigSep Finset.univ fun n => outaE c n)
    ∗ (bigSep Finset.univ fun n => outbE c n)) : sProp 𝕄) := by
  iintro H
  ihave H := (Entails.of_eq ((pointsTo_blocks (ℓ := (c : Thread nD τ).loc main_v1)
    (outRows c) (out_disj c) (out_cover c) f).trans (univ_sum _))) $$ H
  icases H with ⟨Ha, Hb⟩
  isplitl [Ha]
  · iapply (show (bigSep Finset.univ fun n : Fin 16 => (((c : Thread nD τ).loc main_v1)
      ↦[(outA c n).view.set]{fullShare} f : sProp 𝕄)) ⊢ _ from bigSep_mono fun n _ => by
        unfold outaE; exact to_any _ _ f)
    iexact Ha
  · iapply (show (bigSep Finset.univ fun n : Fin 16 => (((c : Thread nD τ).loc main_v1)
      ↦[(outB c n).view.set]{fullShare} f : sProp 𝕄)) ⊢ _ from bigSep_mono fun n _ => by
        unfold outbE; exact to_any _ _ f)
    iexact Hb

/-- The slots of the sending buffer, joined. -/
theorem ys_joined : (bigSep Finset.univ fun n => ysP X c n) ⊢ (anyOf c cc0_scratch0 : sProp 𝕄) := by
  refine (Entails.of_eq ((bigSep_congr fun n _ => by unfold ysP; rw [ys_set]).trans
    (pointsTo_blocks (ℓ := (c : Thread nD τ).loc cc0_scratch0) (fun n : Fin 16 => (slotRect n).set)
      slot_disj slot_cover (sent X c)).symm)).trans ?_
  iintro H; iexists _; iexact H

/-- The slots of the first receiving buffer, joined. -/
theorem yr_joined : (bigSep Finset.univ fun n => yrP X fullShare c n) ⊢ (anyOf c cc0_scratch1 : sProp 𝕄) := by
  refine (Entails.of_eq ((bigSep_congr fun n _ => by unfold yrP; rw [yr_set]).trans
    (pointsTo_blocks (ℓ := (c : Thread nD τ).loc cc0_scratch1) (fun n : Fin 16 => (slotRect n).set)
      slot_disj slot_cover (sent X (yp c))).symm)).trans ?_
  iintro H; iexists _; iexact H

/-- The slots of the second receiving buffer, joined. -/
theorem xr_joined : (bigSep Finset.univ fun n => xrP X c n) ⊢ (anyOf c cc0_scratch2 : sProp 𝕄) := by
  refine (Entails.of_eq ((bigSep_congr fun n _ => by unfold xrP; rw [xr_set]).trans
    (pointsTo_blocks (ℓ := (c : Thread nD τ).loc cc0_scratch2) (fun n : Fin 16 => (slotRect n).set)
      slot_disj slot_cover (sent X (yp (xp c)))).symm)).trans ?_
  iintro H; iexists _; iexact H

/-- The rows of the output buffer, joined. -/
theorem ob_joined : iprop((bigSep Finset.univ fun n => obaP X c n) ∗ (bigSep Finset.univ fun n => obbP X c n))
    ⊢ (anyOf c cc0_scratch3 : sProp 𝕄) := by
  refine (Entails.of_eq ((univ_sum (fun b : Fin 16 ⊕ Fin 16 =>
    (((c : Thread nD τ).loc cc0_scratch3) ↦[obRows c b]{fullShare} obAt X c : sProp 𝕄))).symm.trans
    (pointsTo_blocks (ℓ := (c : Thread nD τ).loc cc0_scratch3)
      (obRows c) (ob_disj c) (ob_cover c) (obAt X c)).symm)).trans ?_
  iintro H; iexists _; iexact H

/-- The rows of the result, joined: the result holds what it should. -/
theorem out_joined : iprop((bigSep Finset.univ fun n => outaP X c n) ∗ (bigSep Finset.univ fun n => outbP X c n))
    ⊢ (((c : Thread nD τ).loc main_v1) ↦{fullShare} outAt X c : sProp 𝕄) :=
  Entails.of_eq ((univ_sum (fun b : Fin 16 ⊕ Fin 16 =>
    (((c : Thread nD τ).loc main_v1) ↦[outRows c b]{fullShare} outAt X c : sProp 𝕄))).symm.trans
    (pointsTo_blocks (ℓ := (c : Thread nD τ).loc main_v1)
      (outRows c) (out_disj c) (out_cover c) (outAt X c)).symm)

end Cert.KernelIdeal.Swap
-- ==== Proof.CanonEq.lean ====
module

public import proofs.«01_k».proof.Proof.Canon

@[expose] public section

noncomputable section

namespace Cert.KernelIdeal.Swap

open Idealize.ShloMosaic Idealize.SL.Sem
open Cert.KernelIdeal.Gen

variable {F : FTy → Type} [FloatOps F]

set_option maxRecDepth 65536 in
set_option maxHeartbeats 4000000 in
/-- The kernel's own text of the exchange, after its signals and wait, is the list of steps. -/
theorem swap_eq (d0 : Dev nD) (v2 v5 v7 : BitVec 32) (hw : k0_chk1 d0 v7) (h2 : k0_cond2 d0 v7 = 1#1) :
    (k0_part57 (F := F) piM (Memref.isWhole_whole _) xM (Memref.isWhole_whole _) outM (Memref.isWhole_whole _)
      ysM (Memref.isWhole_whole _) yrM (Memref.isWhole_whole _) xrM (Memref.isWhole_whole _)
      obM (Memref.isWhole_whole _) cc0_scratch4 cc0_scratch5 cc0_scratch6 cc0_scratch7 cc0_scratch8
      cc0_scratch9 cc0_scratch10 d0 v2 v5 v7 hw h2 >>= fun _ =>
      waitSlot xrM yrM (Memref.isWhole_whole _) (Memref.isWhole_whole _) cc0_scratch6 15) =
    swapBody d0 ⟨k0_dev1 d0 v7, k0_dev1_lt d0 v7 hw h2⟩ ⟨k0_dev2 d0, k0_dev2_lt d0⟩ := by
  iterate 307 (eapply op_step; (exact rfl); (exact rfl); refine fun _ => ?_)

  rfl
end Cert.KernelIdeal.Swap
-- ==== Proof.Body.lean ====
module

public import proofs.«01_k».proof.Proof.Pieces
public import proofs.«01_k».proof.Proof.CanonEq

/-! The whole body of one device: the barrier handshake, and then the steps in their order. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over the chunks -/

/-- A family over the sixteen chunks. -/
abbrev all (Φ : Fin 16 → sProp 𝕄) : sProp 𝕄 := bigSep Finset.univ Φ

/-- A family along the chunks of one kind of step is a family over the sixteen chunks. -/
theorem fam_chunks (k : Kind) (Φ : Kind × Fin 16 → sProp 𝕄) :
    bigSepL (chunks.map fun n => (k, n)) Φ = all fun n => Φ (k, n) := by
  rw [bigSepL_map, ← bigSep_univ_eq_bigSepL chunks (by decide) (by decide)]

/-- A family over pairs of a flag and a chunk is two families over the chunks. -/
theorem all_bool (Φ : Bool × Fin 16 → sProp 𝕄) :
    bigSep Finset.univ Φ = iprop((all fun n => Φ (false, n)) ∗ all fun n => Φ (true, n)) := by
  rw [bigSep_univ_prod, bigSep_univ_eq_bigSepL [false, true] (by decide) (by decide)]
  rfl

/-- A family along a list of all pairs of a flag and a chunk, the flag choosing between two kinds, is two
families over the chunks. -/
theorem fam_pairs (l : List (Bool × Fin 16)) (h : Finset.univ = l.toFinset) (hn : l.Nodup)
    (k k' : Kind) (Φ : Kind × Fin 16 → sProp 𝕄) :
    bigSepL (l.map fun a => (cond a.1 k' k, a.2)) Φ
      = iprop((all fun n => Φ (k, n)) ∗ all fun n => Φ (k', n)) := by
  rw [bigSepL_map, ← bigSep_univ_eq_bigSepL l h hn, all_bool]
  rfl

/-- A family over the six rows of semaphores and the chunks is six families over the chunks. -/
theorem all_rows (Φ : Fin 6 × Fin 16 → sProp 𝕄) :
    bigSep Finset.univ Φ = iprop((all fun n => Φ (0, n)) ∗ (all fun n => Φ (1, n)) ∗ (all fun n => Φ (2, n))
      ∗ (all fun n => Φ (3, n)) ∗ (all fun n => Φ (4, n)) ∗ all fun n => Φ (5, n)) := by
  rw [bigSep_univ_prod, bigSep_univ_eq_bigSepL [0, 1, 2, 3, 4, 5] (by decide) (by decide)]
  rfl

/-- A family of pairs is a pair of families. -/
theorem all_sep (Φ Ψ : Fin 16 → sProp 𝕄) :
    (all fun n => iprop(Φ n ∗ Ψ n)) = iprop(all Φ ∗ all Ψ) := bigSep_sep' _ _ _

/-- The steps fall into the sends, the receives, the waits for the copies to the result and the waits for
the sends. -/
theorem steps_eq : steps = chunks.map (fun n => (Kind.ys, n)) ++
    (order.map (fun a => (cond a.1 Kind.xr Kind.yr, a.2)) ++
    (order.map (fun a => (cond a.1 Kind.ox Kind.oy, a.2)) ++
    (closing.map (fun a => (cond a.1 Kind.wxs Kind.wys, a.2)) ++ []))) := rfl

/-- No steps do nothing. -/
theorem runs_nil (d e e' : Dev nD) : runs (F := F) d e e' [] = Prog.ret ⟨⟩ := rfl

/-! ## From the start to the end of a device -/

variable (X : Dev nD → Vec F S1x2048x1024 .f32) (K : Names) (c : Dev nD)

/-- The device's own rights to wait, and the tokens of the duties it pays. -/
def lin (c : Dev nD) : sProp 𝕄 :=
  iprop(atPos ER (barCell c) 0 ∅ 0 ∗ (bigSep Finset.univ fun kn : Fin 6 × Fin 16 => pos c kn.1 kn.2)
    ∗ dutyTok ER (barCell (yp c)) 0 false ∗ dutyTok ER (barCell (xp c)) 0 true
    ∗ (all fun n => tok c 0 n) ∗ (all fun n => tok (yp c) 1 n) ∗ (all fun n => tok c 2 n)
    ∗ (all fun n => tok (xp c) 3 n) ∗ (all fun n => tok c 4 n) ∗ (all fun n => tok c 5 n))

/-- The credit for what the partners owe the device. -/
def lent (c : Dev nD) : sProp 𝕄 :=
  iprop(cred (tallyAt (barCell c) () 2) ∗ (all fun n => crd c 1 n) ∗ (all fun n => crd c 3 n))

/-- The scratch buffers, with any contents. -/
def scratch (c : Dev nD) : sProp 𝕄 :=
  iprop(anyOf c cc0_scratch0 ∗ anyOf c cc0_scratch1 ∗ anyOf c cc0_scratch2 ∗ anyOf c cc0_scratch3)

/-- The result of the device, in place, and every semaphore back at zero. -/
def done (c : Dev nD) : sProp 𝕄 :=
  iprop((((c : Thread nD τ).loc main_v1) ↦{fullShare} outAt X c) ∗ scratch c
    ∗ semVal (barCell c) 0 ∗ bigSep Finset.univ fun kn : Fin 6 × Fin 16 => shut c kn.1 kn.2)

/-- The steps, from the pieces to the pieces. -/
theorem steps_wp (Q : PUnit.{1} → sProp 𝕄) :
    iprop(known X K ∗ xP X c
        ∗ (all fun n => ysE c n) ∗ (all fun n => yrE (yp c) n) ∗ (all fun n => xrE (xp c) n)
        ∗ (all fun n => obaE c n) ∗ (all fun n => obbE c n) ∗ (all fun n => outaE c n) ∗ (all fun n => outbE c n)
        ∗ (bigSep Finset.univ fun kn : Fin 6 × Fin 16 => pos c kn.1 kn.2)
        ∗ (all fun n => tok c 0 n) ∗ (all fun n => tok (yp c) 1 n) ∗ (all fun n => tok c 2 n)
        ∗ (all fun n => tok (xp c) 3 n) ∗ (all fun n => tok c 4 n) ∗ (all fun n => tok c 5 n)
        ∗ (all fun n => crd c 1 n) ∗ (all fun n => crd c 3 n)
        ∗ owesE c (dues c steps)
        ∗ ((xP X c ∗ (((c : Thread nD τ).loc main_v1) ↦{fullShare} outAt X c) ∗ scratch c
            ∗ (bigSep Finset.univ fun kn : Fin 6 × Fin 16 => shut c kn.1 kn.2) ∗ owesE c 0) -∗ Q ⟨⟩))
      ⊢ WP c (runs c (yp c) (xp c) steps) Q := by
  have hfine := fine_steps
  rw [steps_eq] at hfine ⊢
  have h2 := fine_drop hfine
  have h3 := fine_drop h2
  have h4 := fine_drop h3
  rw [all_rows, all_rows]
  simp only
  iintro ⟨#HK, Hx, Hys, Hyr, Hxr, Hoba, Hobb, Houta, Houtb, ⟨Hp0, Hp1, Hp2, Hp3, Hp4, Hp5⟩,
    Ht0, Ht1, Ht2, Ht3, Ht4, Ht5, Hc1, Hc3, HO, Hk⟩
  iapply (loop X K c Q _ _ hfine)
  rw [fam_chunks, fam_chunks]
  isplitr; · iexact HK
  isplitl [Hx]; · iexact Hx
  isplitl [Hys Hyr Ht0 Ht1]
  · unfold Pre; simp only [all_sep]
    isplitl [Hys]; · iexact Hys
    isplitl [Hyr]; · iexact Hyr
    isplitl [Ht0]; · iexact Ht0
    iexact Ht1
  isplitl [HO]; · iexact HO
  iintro ⟨Hx, Hpost, HO⟩
  ihave Hc0 := (show (all fun n => Post X c (.ys, n)) ⊢ (all fun n => crd c 0 n) from BI.Entails.refl _) $$ Hpost
  iapply (loop X K c Q _ _ h2)
  rw [fam_pairs order (by decide) (by decide), fam_pairs order (by decide) (by decide)]
  isplitr; · iexact HK
  isplitl [Hx]; · iexact Hx
  isplitl [Hp1 Hc1 Hxr Ht2 Ht3 Hoba Houta Ht4 Hp3 Hc3 Hobb Houtb Ht5]
  · unfold Pre; simp only [all_sep]
    isplitl [Hp1 Hc1 Hxr Ht2 Ht3 Hoba Houta Ht4]
    · isplitl [Hp1]; · iexact Hp1
      isplitl [Hc1]; · iexact Hc1
      isplitl [Hxr]; · iexact Hxr
      isplitl [Ht2]; · iexact Ht2
      isplitl [Ht3]; · iexact Ht3
      isplitl [Hoba]; · iexact Hoba
      isplitl [Houta]; · iexact Houta
      iexact Ht4
    · isplitl [Hp3]; · iexact Hp3
      isplitl [Hc3]; · iexact Hc3
      isplitl [Hobb]; · iexact Hobb
      isplitl [Houtb]; · iexact Houtb
      iexact Ht5
  isplitl [HO]; · iexact HO
  iintro ⟨Hx, ⟨Hpost, Hpost'⟩, HO⟩
  ihave Hq := (show (all fun n => Post X c (.yr, n)) ⊢ iprop((all fun n => shut c 1 n) ∗ (all fun n => crd c 2 n)
      ∗ (all fun n => yrP X fullShare.right c n) ∗ all fun n => crd c 4 n) from
    Entails.of_eq (by unfold Post; simp only [all_sep])) $$ Hpost
  icases Hq with ⟨Hs1, Hc2, Hyr, Hc4⟩
  ihave Hq := (show (all fun n => Post X c (.xr, n)) ⊢ iprop((all fun n => shut c 3 n)
      ∗ (all fun n => xrP X c n) ∗ all fun n => crd c 5 n) from
    Entails.of_eq (by unfold Post; simp only [all_sep])) $$ Hpost'
  icases Hq with ⟨Hs3, Hxr, Hc5⟩
  iapply (loop X K c Q _ _ h3)
  rw [fam_pairs order (by decide) (by decide), fam_pairs order (by decide) (by decide)]
  isplitr; · iexact HK
  isplitl [Hx]; · iexact Hx
  isplitl [Hp4 Hc4 Hp5 Hc5]
  · unfold Pre; simp only [all_sep]
    isplitl [Hp4 Hc4]
    · isplitl [Hp4]; · iexact Hp4
      iexact Hc4
    · isplitl [Hp5]; · iexact Hp5
      iexact Hc5
  isplitl [HO]; · iexact HO
  iintro ⟨Hx, ⟨Hpost, Hpost'⟩, HO⟩
  ihave Hq := (show (all fun n => Post X c (.oy, n)) ⊢ iprop((all fun n => shut c 4 n)
      ∗ (all fun n => outaP X c n) ∗ all fun n => obaP X c n) from
    Entails.of_eq (by unfold Post; simp only [all_sep])) $$ Hpost
  icases Hq with ⟨Hs4, Houta, Hoba⟩
  ihave Hq := (show (all fun n => Post X c (.ox, n)) ⊢ iprop((all fun n => shut c 5 n)
      ∗ (all fun n => outbP X c n) ∗ all fun n => obbP X c n) from
    Entails.of_eq (by unfold Post; simp only [all_sep])) $$ Hpost'
  icases Hq with ⟨Hs5, Houtb, Hobb⟩
  iapply (loop X K c Q _ _ h4)
  rw [fam_pairs closing (by decide) (by decide), fam_pairs closing (by decide) (by decide)]
  isplitr; · iexact HK
  isplitl [Hx]; · iexact Hx
  isplitl [Hp0 Hc0 Hp2 Hc2]
  · unfold Pre; simp only [all_sep]
    isplitl [Hp0 Hc0]
    · isplitl [Hp0]; · iexact Hp0
      iexact Hc0
    · isplitl [Hp2]; · iexact Hp2
      iexact Hc2
  isplitl [HO]; · iexact HO
  iintro ⟨Hx, ⟨Hpost, Hpost'⟩, HO⟩
  ihave Hq := (show (all fun n => Post X c (.wys, n)) ⊢ iprop((all fun n => shut c 0 n)
      ∗ all fun n => ysP X c n) from
    Entails.of_eq (by unfold Post; simp only [all_sep])) $$ Hpost
  icases Hq with ⟨Hs0, Hys⟩
  ihave Hq := (show (all fun n => Post X c (.wxs, n)) ⊢ iprop((all fun n => shut c 2 n)
      ∗ all fun n => yrP X fullShare.left c n) from
    Entails.of_eq (by unfold Post; simp only [all_sep])) $$ Hpost'
  icases Hq with ⟨Hs2, Hyl⟩
  ihave Hyr := (show iprop((all fun n => yrP X fullShare.left c n) ∗ all fun n => yrP X fullShare.right c n)
      ⊢ (all fun n => yrP X fullShare c n) from by
    rw [← all_sep]; exact bigSep_mono fun n _ => yr_join X c n) $$ [Hyl Hyr]
  · isplitl [Hyl]; · iexact Hyl
    iexact Hyr
  ihave Hys := (ys_joined X c) $$ Hys
  ihave Hyr := (yr_joined X c) $$ Hyr
  ihave Hxr := (xr_joined X c) $$ Hxr
  ihave Hob := (ob_joined X c) $$ [Hoba Hobb]
  · isplitl [Hoba]; · iexact Hoba
    iexact Hobb
  ihave Hout := (out_joined X c) $$ [Houta Houtb]
  · isplitl [Houta]; · iexact Houta
    iexact Houtb
  rw [runs_nil]; unfold WP; rw [wp_ret]; imodintro
  iapply Hk
  isplitl [Hx]; · iexact Hx
  isplitl [Hout]; · iexact Hout
  isplitl [Hys Hyr Hxr Hob]
  · unfold scratch
    isplitl [Hys]; · iexact Hys
    isplitl [Hyr]; · iexact Hyr
    isplitl [Hxr]; · iexact Hxr
    iexact Hob
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iexact HO

/-- The handshake: each partner is told that the device's landing slots are free, both partners'
tidings are awaited, and the barrier cell is closed. The partners' landing slots come with them. -/
theorem handshake (p : P F) (Q : PUnit.{1} → sProp 𝕄) :
    iprop(known X K ∗ atPos ER (barCell c) 0 ∅ 0
        ∗ dutyTok ER (barCell (yp c)) 0 false ∗ dutyTok ER (barCell (xp c)) 0 true
        ∗ (all fun n => yrE c n) ∗ (all fun n => xrE c n)
        ∗ cred (tallyAt (barCell c) () 2) ∗ owesE c (O₀ c)
        ∗ (((all fun n => yrE (yp c) n) ∗ (all fun n => xrE (xp c) n) ∗ semVal (barCell c) 0
            ∗ owesE c (dues c steps)) -∗ WP c p Q))
      ⊢ WP c (semSignalWord (yp c) barS 1#32 >>= fun _ =>
          semSignalWord (xp c) barS 1#32 >>= fun _ =>
          semWaitWord barS 2#32 >>= fun _ => p) Q := by
  simp only [semSignalWord, semWaitWord, Prog.lift, Prog.bind_op, Prog.bind_ret, Prog.pure_eq_ret]
  unfold owesE
  iintro ⟨#HK, Hat, Hty, Htx, Hyr, Hxr, Hc, ⟨%W, HO⟩, Hk⟩
  iapply (Rounds.wp_signal 𝒱₀ ER (Rd X) (c : Thread nD τ) none (dst := (yp c : Thread nD τ)) (κ := K (yp c, .inl ()))
      (d := false) (by rw [duties_bar]; exact Finset.mem_univ _) ((amount_bar X (yp c) false).trans (by decide)) () (O₁ c) rfl)
    $$ [HO Hty Hyr]
  · isplitr; · iapply (inv_bar X K (yp c)); iexact HK
    isplitl [HO]; · iexact HO
    isplitl [Hty]; · iexact Hty
    isplitl [Hyr]; · rw [payload_bar]; unfold barPay; rw [yp_yp]; iexact Hyr
    iapply (reached_bar X K (yp c)); iexact HK
  iintro HO
  unfold O₁
  iapply (Rounds.wp_signal 𝒱₀ ER (Rd X) (c : Thread nD τ) none (dst := (xp c : Thread nD τ)) (κ := K (xp c, .inl ()))
      (d := true) (by rw [duties_bar]; exact Finset.mem_univ _) ((amount_bar X (xp c) true).trans (by decide)) () (dues c steps) rfl)
    $$ [HO Htx Hxr]
  · isplitr; · iapply (inv_bar X K (xp c)); iexact HK
    isplitl [HO]; · iexact HO
    isplitl [Htx]; · iexact Htx
    isplitl [Hxr]; · rw [payload_bar]; unfold barPay; rw [xp_xp]; iexact Hxr
    iapply (reached_bar X K (xp c)); iexact HK
  iintro HO
  iapply (Rounds.wp_wait_rest_token 𝒱₀ ER (Rd X) (c : Thread nD τ) none (κ := K (c, .inl ()))
      (wpE_semWait_eq 𝒱₀ (c : Thread nD τ) none Set.univ) (Set.mem_univ _) () (O := dues c steps) (W := W) (R := 0) (m := 0) (T := ∅)
      (by rw [expect_bar]; decide)) $$ [Hc HO Hat]
  · isplitr; · iapply (inv_bar X K c); iexact HK
    isplitl [Hc]; · iexact Hc
    isplitl [HO]; · iexact HO
    isplitr
    · iapply (mayWait_dues c (.reg barS) steps 1 (lv_bar c) (by decide))
      unfold known; icases HK with ⟨-, #HL⟩; iexact HL
    iexact Hat
  iintro ⟨HO, Hat, -, Hpay⟩
  ihave Hp := (Entails.of_eq (rest_bar X c)) $$ Hpay
  unfold barPay
  icases Hp with ⟨Hyr, Hxr⟩
  imod (Rounds.cell_close ER (Rd X) (Set.mem_univ (K (c, .inl ()))) (fun h => h) (R := 0 + 1)
    (duties_later X (barCell c))) $$ [Hat] with Hz
  · isplitr; · iapply (inv_bar X K c); iexact HK
    iexact Hat
  iapply Hk
  isplitl [Hyr]; · iexact Hyr
  isplitl [Hxr]; · iexact Hxr
  isplitl [Hz]; · iexact Hz
  iexists _; iexact HO

/-- The body of the swapping branch, from what a device starts with to what it ends with. -/
theorem swap_wp (Q : PUnit.{1} → sProp 𝕄) (f : Buf (Elt F) ((c : Thread nD τ).loc main_v1)) :
    iprop(known X K ∗ xP X c ∗ scratch c ∗ (((c : Thread nD τ).loc main_v1) ↦{fullShare} f)
        ∗ lin c ∗ lent c ∗ owesE c (O₀ c)
        ∗ ((xP X c ∗ done X c ∗ owesE c 0) -∗ Q ⟨⟩))
      ⊢ WP c (swapBody c (yp c) (xp c)) Q := by
  unfold swapBody lin lent scratch
  iintro ⟨#HK, Hx, ⟨Hs0, Hs1, Hs2, Hs3⟩, Hout, ⟨Hat, Hpos, Hty, Htx, Ht0, Ht1, Ht2, Ht3, Ht4, Ht5⟩,
    ⟨Hcb, Hc1, Hc3⟩, HO, Hk⟩
  ihave Hys := (ys_cut c) $$ Hs0
  ihave Hyr := (yr_cut c) $$ Hs1
  ihave Hxr := (xr_cut c) $$ Hs2
  ihave Hob := (ob_cut c) $$ Hs3
  icases Hob with ⟨Hoba, Hobb⟩
  ihave Hou := (out_cut c f) $$ Hout
  icases Hou with ⟨Houta, Houtb⟩
  iapply (handshake X K c _ Q)
  isplitr; · iexact HK
  isplitl [Hat]; · iexact Hat
  isplitl [Hty]; · iexact Hty
  isplitl [Htx]; · iexact Htx
  isplitl [Hyr]; · iexact Hyr
  isplitl [Hxr]; · iexact Hxr
  isplitl [Hcb]; · iexact Hcb
  isplitl [HO]; · iexact HO
  iintro ⟨Hyr, Hxr, Hz, HO⟩
  iapply (steps_wp X K c Q)
  isplitr; · iexact HK
  isplitl [Hx]; · iexact Hx
  isplitl [Hys]; · iexact Hys
  isplitl [Hyr]; · iexact Hyr
  isplitl [Hxr]; · iexact Hxr
  isplitl [Hoba]; · iexact Hoba
  isplitl [Hobb]; · iexact Hobb
  isplitl [Houta]; · iexact Houta
  isplitl [Houtb]; · iexact Houtb
  isplitl [Hpos]; · iexact Hpos
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hc1]; · iexact Hc1
  isplitl [Hc3]; · iexact Hc3
  isplitl [HO]; · iexact HO
  iintro ⟨Hx, Hout, Hscr, Hshut, HO⟩
  iapply Hk
  isplitl [Hx]; · iexact Hx
  isplitr [HO]
  · unfold done scratch
    isplitl [Hout]; · iexact Hout
    isplitl [Hscr]; · iexact Hscr
    isplitl [Hz]; · iexact Hz
    iexact Hshut
  iexact HO

end Cert.KernelIdeal.Swap
-- ==== Proof.Device.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

/-! The whole kernel on one device, for the permutation that swaps. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The table that sends each of the two positions to the other one. -/
def swapPi : S2.Idx → BitVec 32 := fun i => BitVec.ofNat 32 (1 - (i 0).val)

variable (m : (ℓ : Loc nD τ sig) → Buf (Elt F) ℓ) (ρ : Dev nD → PrngReg)

/-- The memory at launch, every counter at zero. -/
def s₀ : MemSt nD τ sig (Elt F) := ⟨m, fun _ => 0, ρ⟩

variable (X : Dev nD → Vec F S1x2048x1024 .f32) (K : Names) (c : Dev nD)

/-- The permutation of the exchange, staged. -/
abbrev piP (c : Dev nD) : sProp 𝕄 := ((c : Thread nD τ).loc cc0_stg0_0) ↦{fullShare} (swapPi : Buf (Elt F) ((c : Thread nD τ).loc cc0_stg0_0))

/-- The one element of the permutation that device `c` reads. -/
abbrev r1 (c : Dev nD) : Rect S2 := Rect.unit (s := S2) (k0_off1 c) S1.size (k0_off1_inb c)

/-- What device `c` reads of the permutation: the other block's position. -/
theorem read_pi (c : Dev nD) : View.read (Elt F) (piM.access (r1 c)) swapPi
    (Shape.Idx.first (numel1_S1.symm ▸ Nat.one_pos)) = other c := by
  show swapPi _ = _
  revert c; decide +kernel

/-- The block a device wants is not its own, so the copying branch is not taken. -/
theorem not_same (c : Dev nD) : ¬ Scalar.cmpi .ne (Scalar.extui (Scalar.cmpi .eq (other c)
    (Scalar.remsi (Scalar.divsi (Dev.word c) 1#32) 2#32))) 0#32 = 1#1 := by revert c; decide +kernel

/-- The skeleton on what it reads: given the table's word is the other position. -/
theorem kernel_wp (Q : PUnit.{1} → sProp 𝕄) (f : Buf (Elt F) ((c : Thread nD τ).loc main_v1)) :
    iprop(known X K ∗ piP (F := F) c ∗ xP X c ∗ scratch c ∗ (((c : Thread nD τ).loc main_v1) ↦{fullShare} f)
        ∗ lin c ∗ lent c ∗ owesE c (O₀ c)
        ∗ ((piP c ∗ xP X c ∗ done X c ∗ owesE c 0) -∗ Q ⟨⟩))
      ⊢ WP c (cc0_body_skel (F := F) piM (Memref.isWhole_whole _) xM (Memref.isWhole_whole _) outM (Memref.isWhole_whole _)
      ysM (Memref.isWhole_whole _) yrM (Memref.isWhole_whole _) xrM (Memref.isWhole_whole _)
      obM (Memref.isWhole_whole _) cc0_scratch4 cc0_scratch5 cc0_scratch6 cc0_scratch7 cc0_scratch8
      cc0_scratch9 cc0_scratch10) Q := by
  unfold cc0_body_skel
  simp only [smemLoad, smemLoadElt, Prog.lift, Prog.bind_op, Prog.bind_ret, Prog.pure_eq_ret, Prog.bind_assoc, WP, wp_deviceId]
  iintro ⟨#HK, Hpi, Hk⟩
  iapply (wp_load_rect 𝒱₀ (c : Thread nD τ) none Set.univ (m := piM) (r := r1 c) (Finset.subset_univ _)) $$ Hpi; iintro Hpi
  have hv := read_pi (F := F) c
  generalize View.read (Elt F) (piM.access (r1 c)) swapPi (Shape.Idx.first _) = w at hv ⊢
  subst hv
  simp only [wp_assume_of _ _ _ _ (d := k0_chk1.dec _ _) (other_chk c)]
  rw [if_neg (not_same c), dif_pos (other_cond c)]
  have he := swap_eq (F := F) c (Scalar.remsi (Scalar.divsi c.word 2#32) 2#32)
    (Scalar.remsi (Scalar.divsi c.word 1#32) 2#32) (other c) (other_chk c) (other_cond c)
  unfold waitSlot at he
  simp only [Prog.lift] at he
  rw [show (⟨k0_dev1 c (other c), k0_dev1_lt c (other c) (other_chk c) (other_cond c)⟩ : Dev nD) = yp c from
      Fin.ext (dev1_eq c),
    show (⟨k0_dev2 c, k0_dev2_lt c⟩ : Dev nD) = xp c from Fin.ext (dev2_eq c)] at he
  erw [he]
  icases Hk with ⟨Hx, Hscr, Hout, Hlin, Hlent, HO, Hk⟩
  iapply (swap_wp X K c Q f)
  isplitr; · iexact HK
  isplitl [Hx]; · iexact Hx
  isplitl [Hscr]; · iexact Hscr
  isplitl [Hout]; · iexact Hout
  isplitl [Hlin]; · iexact Hlin
  isplitl [Hlent]; · iexact Hlent
  isplitl [HO]; · iexact HO
  iintro ⟨Hx, Hd, HO⟩
  iapply Hk
  isplitl [Hpi]; · iexact Hpi
  isplitl [Hx]; · iexact Hx
  isplitl [Hd]; · iexact Hd
  iexact HO

/-! ## The proof data of the launch -/

section Data

open Idealize.ShloMosaic.Pipeline (Dat Cfg Window BodyObligation cellOf)

/-- The blocks of `x` that the devices hold. -/
def xIn (c : Dev nD) : Vec F S1x2048x1024 .f32 := m ((c : Thread nD τ).loc main_arg0)

/-- On every device the permutation is the swap. -/
def Swaps : Prop := ∀ c : Dev nD, m ((c : Thread nD τ).loc main_arg1) = (swapPi : Buf (Elt F) ((c : Thread nD τ).loc main_arg1))

/-- The staged block of the permutation is all of it. -/
theorem read_win0 (f : (main_arg1 : Ref sig .tc).ty.Contents (Elt F)) : (win0_0.blk (0 : Fin 1)).view.read (Elt F) f = f := by
  funext i
  refine congrArg f (funext fun a => Fin.ext ?_)
  exact Pipeline.Window.rect_emb_val_of_index_zero win0_0 (0 : Fin 1) a rfl i

/-- The staged block of `x` is all of it. -/
theorem read_win1 (f : (main_arg0 : Ref sig .tc).ty.Contents (Elt F)) : (win0_1.blk (0 : Fin 1)).view.read (Elt F) f = f := by
  funext i
  refine congrArg f (funext fun a => Fin.ext ?_)
  exact Pipeline.Window.rect_emb_val_of_index_zero win0_1 (0 : Fin 1) a rfl i

/-- What the body of device `c` starts from, beside its scratch buffers. -/
def start (c : Dev nD) : sProp 𝕄 :=
  iprop((∃ K, records (xIn m) K ∗ lin c) ∗ lent c ∗ levAts L lv
    ∗ (((c : Thread nD τ).loc main_v1) ↦{fullShare} m ((c : Thread nD τ).loc main_v1)))

/-- What a device holds as its body starts, the staged arguments apart. -/
def Φ₀ (c : Dev nD) : sProp 𝕄 := iprop(start m c ∗ scratch c)

/-- What the staging of the arguments holds and leaves, and what the body holds before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => swapPi
    | ⟨1, _⟩ => xIn m c
  Φ t := match t with
    | ⟨0, _⟩ => Φ₀ m c
    | ⟨_ + 1, _⟩ => done (xIn m) c
  q _ := fullShare
  owed t := match t with
    | ⟨0, _⟩ => O₀ c
    | ⟨_ + 1, _⟩ => 0

/-- The permutation is fetched. -/
theorem fetch_0 (t : Fin cfg0.N) : (cfg0.win (0 : Fin 2)).fetch t = true := by rw [fin_N0 t]; rfl

/-- The block of `x` is fetched. -/
theorem fetch_1 (t : Fin cfg0.N) : (cfg0.win (1 : Fin 2)).fetch t = true := by rw [fin_N0 t]; rfl

/-- Owning a whole buffer by its contents is holding all its elements. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer held whole, with given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the launch hands the body. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the body hands back. -/
def bodyPost (c : Dev nD) : sProp 𝕄 :=
  iprop(done (xIn m) c ∗ (dats m ρ 0 c).owesAt () t0_0.succ ∗ stg c cc0_stg0_0 swapPi ∗ stg c cc0_stg1_0 (xIn m c))

/-- From what the launch hands the body to what it takes back. -/
theorem sound_body (hs : Swaps m) (c : Dev nD) (Kt : PUnit.{1} → sProp 𝕄) :
    iprop(bodyPre m ρ c ∗ (bodyPost m ρ c -∗ Kt ⟨⟩))
      ⊢ WP c (cc0_body (F := F) piM (Memref.isWhole_whole _) xM (Memref.isWhole_whole _) outM (Memref.isWhole_whole _)
      ysM (Memref.isWhole_whole _) yrM (Memref.isWhole_whole _) xrM (Memref.isWhole_whole _)
      obM (Memref.isWhole_whole _) cc0_scratch4 cc0_scratch5 cc0_scratch6 cc0_scratch7 cc0_scratch8
      cc0_scratch9 cc0_scratch10) Kt := by
  rw [cc0_body_eq_skeleton]
  unfold bodyPre Φ₀ start
  iintro ⟨⟨⟨⟨⟨%K, #HR, Hlin⟩, Hlent, #HL, Hout⟩, Hscr⟩, Ho, ⟨%d0, %g0, %hg0, Hpi⟩, ⟨%d1, %g1, %hg1, Hx⟩⟩, Hk⟩
  have hp : g0 = (swapPi : Buf (Elt F) ((c : Thread nD τ).loc cc0_stg0_0)) := by
    rw [hg0]; unfold Dat.before; rw [if_pos (fetch_0 t0_0)]
    exact (read_win0 (F := F) _).trans (hs c)
  subst hp
  have hx : g1 = xIn m c := by
    rw [hg1]; unfold Dat.before; rw [if_pos (fetch_1 t0_0)]
    exact read_win1 (F := F) _
  subst hx
  unfold Dat.owesAt Pipeline.owesWithin
  icases Ho with ⟨%W, %hW, HO⟩
  rw [show (dats m ρ 0 c).owed t0_0.castSucc = O₀ c from rfl]
  iapply (kernel_wp (xIn m) K c Kt _)
  isplitr
  · unfold known
    isplitr; · iexact HR
    iexact HL
  isplitl [Hpi]; · iexact Hpi
  isplitl [Hx]; · unfold xP; iexact Hx
  isplitl [Hscr]; · iexact Hscr
  isplitl [Hout]; · iexact Hout
  isplitl [Hlin]; · iexact Hlin
  isplitl [Hlent]; · iexact Hlent
  isplitl [HO]; · unfold owesE; iexists W; iexact HO
  iintro ⟨Hpi, Hx, Hd, HO⟩
  iapply Hk
  unfold bodyPost Dat.owesAt Pipeline.owesWithin owesE xP
  rw [show (dats m ρ 0 c).owed t0_0.succ = 0 from rfl]
  icases HO with ⟨%W', HO⟩
  isplitl [Hd]; · iexact Hd
  isplitl [HO]
  · iexists W'
    isplitr; · ipureintro; exact fun _ _ => Or.inl trivial
    iexact HO
  isplitl [Hpi]
  · iexists _; isplitr; · (ipureintro; rfl)
    iexact Hpi
  iexists _; isplitr; · (ipureintro; rfl)
  iexact Hx

set_option maxRecDepth 4000 in
/-- The body obligation of the launch, on device `c`. -/
theorem body_obligation (hs : Swaps m) (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) piM (Memref.isWhole_whole _) xM (Memref.isWhole_whole _) outM (Memref.isWhole_whole _)
      ysM (Memref.isWhole_whole _) yrM (Memref.isWhole_whole _) xrM (Memref.isWhole_whole _)
      obM (Memref.isWhole_whole _) cc0_scratch4 cc0_scratch5 cc0_scratch6 cc0_scratch7 cc0_scratch8
      cc0_scratch9 cc0_scratch10) (fun _ => bodyPost m ρ c)
  iintro H
  iapply (sound_body m ρ hs c fun _ => bodyPost m ρ c)
  isplitl [H]; · iexact H
  iintro H; iexact H

end Data

end Cert.KernelIdeal.Swap
-- ==== Proof.Launch.lean ====
module

public import proofs.«01_k».proof.Proof.Device
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Pipeline.Value
public import Idealize.ShloMosaic.Lib.Tactic

/-! The launch: the cells are funded and dealt, the devices run, and the results are read. -/

@[expose] public section

noncomputable section

namespace Cert.KernelIdeal.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The index of a semaphore of the kernel. -/
abbrev Sx : Type := Unit ⊕ (Fin 6 × Fin 16)

/-- The copy semaphores are the region's own and none is used for staging. -/
theorem ownSemFacts : Pipeline.OwnSemFacts cfg0.spec osem := by decide +kernel

/-- The staged arrays are held whole. -/
theorem share_eq (c : Dev nD) (w : Fin cfg0.W) : (dats m ρ 0 c).share w = fullShare := by
  unfold Dat.share; split <;> rfl

/-- The semaphores of the kernel are distinct. -/
theorem csem_inj : Function.Injective csem := by
  rintro (⟨⟩ | a) (⟨⟩ | b) h
  · rfl
  · exact absurd h.symm (osem_ne_bar b)
  · exact absurd h (osem_ne_bar a)
  · exact congrArg Sum.inr (osem_inj h)

/-- The cells of all devices are distinct. -/
theorem kcell_inj : Function.Injective (kcell : Dev nD × Sx → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The cells of all devices. -/
def swapCells : Finset (GSem nD τ sig) := Finset.univ.map ⟨kcell, kcell_inj⟩

/-- The duties of a device's cells: two of the barrier, one of every copy semaphore. -/
abbrev tokOf (cj : Dev nD × (Bool ⊕ (Fin 6 × Fin 16))) : GSem nD τ sig × ℕ × Bool :=
  match cj.2 with
  | .inl b => (barCell cj.1, 0, b)
  | .inr kn => (dCell cj.1 kn.1 kn.2, 0, false)

/-- The duties of all devices are distinct. -/
theorem tokOf_inj : Function.Injective tokOf := by
  rintro ⟨c, j⟩ ⟨c', j'⟩ h
  have h1 : c = c' := by
    have := congrArg (fun x : GSem nD τ sig × ℕ × Bool => x.1.1.1) h
    rcases j with b | a <;> rcases j' with b' | a' <;> exact this
  subst h1
  have hc := congrArg (fun x : GSem nD τ sig × ℕ × Bool => x.1.2) h
  have hb := congrArg (fun x : GSem nD τ sig × ℕ × Bool => x.2.2) h
  rcases j with b | a <;> rcases j' with b' | a'
  · exact congrArg (fun b => (c, Sum.inl b)) hb
  · exact absurd hc.symm (osem_ne_bar a')
  · exact absurd hc (osem_ne_bar a)
  · exact congrArg (fun a => (c, Sum.inr a)) (osem_inj hc)

/-- The duties of all devices. -/
def swapToks : Finset (GSem nD τ sig × ℕ × Bool) := Finset.univ.map ⟨tokOf, tokOf_inj⟩

/-- The element the run starts from. -/
def u₀ : UU :=
  (initOf (Pipeline.cells cfgs cellOf_inj) (Pipeline.launchToks cfgs cellOf_inj), initOf swapCells swapToks)

/-- The tokens of the device's own cells. -/
def toks (c : Dev nD) : sProp 𝕄 :=
  iprop((dutyTok ER (barCell c) 0 false ∗ dutyTok ER (barCell c) 0 true)
    ∗ bigSep Finset.univ fun kn : Fin 6 × Fin 16 => tok c kn.1 kn.2)

/-- What a device is dealt at first. -/
def G (c : Dev nD) : sProp 𝕄 :=
  iprop((bigSep Finset.univ fun k : Sx => roundState ER (Rd (xIn m)) (kcell (c, k)) 0)
    ∗ (bigSep Finset.univ fun k : Sx => iprop(atPos ER (kcell (c, k)) 0 ∅ 0 ∗ reached ER (kcell (c, k)) 0)) ∗ toks c)

/-- What it has once every cell is set up. -/
def G' (c : Dev nD) : sProp 𝕄 := iprop(∃ K, records (xIn m) K ∗ lin c)

/-- A family over one index is its one member. -/
theorem over_unit (Φ : Unit → sProp 𝕄) : bigSep Finset.univ Φ = Φ () :=
  bigSep_univ_eq_bigSepL [()] (by decide) (by decide) Φ

/-- A family over the two flags is a pair. -/
theorem over_bool (Φ : Bool → sProp 𝕄) : bigSep Finset.univ Φ = iprop(Φ false ∗ Φ true) :=
  bigSep_univ_eq_bigSepL [false, true] (by decide) (by decide) Φ

/-- The cells are funded and dealt. -/
theorem fund_cells : BI.own (ER (initOf swapCells swapToks)) ⊢ (|==> bigSep Finset.univ (G m) : sProp 𝕄) := by
  have hX (Φ : GSem nD τ sig → sProp 𝕄) : bigSep swapCells Φ
      = bigSep Finset.univ fun c : Dev nD => bigSep Finset.univ fun k : Sx => Φ (kcell (c, k)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]
    exact bigSep_congr fun c _ => by rw [univ_sum, over_bool]; rfl
  iintro HX
  imod (Rounds.fund ER (Rd (xIn m)) swapCells swapToks) $$ HX with ⟨Hst, Hr, Hat, Htok⟩
  imodintro
  ihave Hst := (Entails.of_eq (hX fun g => roundState ER (Rd (xIn m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The barrier semaphore is the only one outside the kernel's region. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The copy semaphores, at zero. -/
theorem ownSems0_eq (c : Dev nD) : (Pipeline.ownSems0 (Ix := Unit) (Name := ℕ) (U := UU) (Lvl := ℕ) (Val := Elt F) (τ := τ) osem c : sProp 𝕄)
    = bigSep Finset.univ fun kn : Fin 6 × Fin 16 => shut c kn.1 kn.2 := rfl

/-- The semaphores of a device at zero, the copy semaphores and the barrier together. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Sx => semVal (kcell (c, k)) 0 : sProp 𝕄) := by
  rw [ownSems0_eq, unscopedSems0_eq, univ_sum, over_unit]
  iintro ⟨H1, H2⟩
  isplitl [H2]; · iexact H2
  iexact H1

/-- On one device every cell's invariant is allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xIn m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Sx => semVal (kcell (c, k)) 0) ∗ bigSep Finset.univ fun k : Sx => roundState ER (Rd (xIn m)) (kcell (c, k)) 0)
      ⊢ (|={Set.univ}=> bigSep Finset.univ fun k => iprop(∃ κ : ℕ, cellInv ER (Rd (xIn m)) κ (kcell (c, k))) : sProp 𝕄) from by
        rw [← bigSep_sep']
        exact (bigSep_mono fun k _ => (Rounds.body_intro ER (Rd (xIn m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The device's positions and the tokens it pays with, before they are sorted by row. -/
def dealt (c : Dev nD) : sProp 𝕄 :=
  iprop((bigSep Finset.univ fun k : Sx => atPos ER (kcell (c, k)) 0 ∅ 0)
    ∗ dutyTok ER (barCell (yp c)) 0 false ∗ dutyTok ER (barCell (xp c)) 0 true
    ∗ (all fun n => tok c 0 n) ∗ (all fun n => tok (yp c) 1 n) ∗ (all fun n => tok c 2 n)
    ∗ (all fun n => tok (xp c) 3 n) ∗ (all fun n => tok c 4 n) ∗ (all fun n => tok c 5 n))

/-- Sorted by row, what a device is dealt is what its body takes. -/
theorem dealt_lin (c : Dev nD) : dealt (F := F) c ⊢ lin c := by
  unfold dealt lin
  rw [univ_sum, over_unit]
  iintro ⟨⟨H1, H2⟩, H3⟩
  isplitl [H1]; · iexact H1
  isplitl [H2]; · iexact H2
  iexact H3

set_option backward.proofsInPublic true in
/-- The exchange over `y`, as a bijection. -/
def yEquiv : Dev nD ≃ Dev nD := ⟨yp, yp, yp_yp, yp_yp⟩

set_option backward.proofsInPublic true in
/-- The exchange over `x`, as a bijection. -/
def xEquiv : Dev nD ≃ Dev nD := ⟨xp, xp, xp_xp, xp_xp⟩

/-- Every token goes to the device that pays with it. -/
theorem toks_dealt : (bigSep Finset.univ fun c : Dev nD => iprop((bigSep Finset.univ fun k : Sx => atPos ER (kcell (c, k)) 0 ∅ 0) ∗ toks c) : sProp 𝕄)
    ⊢ bigSep Finset.univ fun c : Dev nD => dealt c := by
  unfold toks dealt
  simp only [all_rows, bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (all fun n => tok c 1 n : sProp 𝕄)),
    bigSep_univ_equiv xEquiv (fun c : Dev nD => (all fun n => tok c 3 n : sProp 𝕄))]
  iintro ⟨H, ⟨Hf, Ht⟩, H0, H1, H2, H3, H4, H5⟩
  isplitl [H]; · iexact H
  isplitl [Hf]; · iexact Hf
  isplitl [Ht]; · iexact Ht
  isplitl [H0]; · iexact H0
  isplitl [H1]; · iexact H1
  isplitl [H2]; · iexact H2
  isplitl [H3]; · iexact H3
  isplitl [H4]; · iexact H4
  iexact H5

/-- Persistent knowledge reaches every member of a family. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all cells become known to every device, and the tokens go where they are paid. -/
theorem regroup :
    (bigSep Finset.univ fun c : Dev nD => iprop((bigSep Finset.univ fun k => iprop(∃ κ : ℕ, cellInv ER (Rd (xIn m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Sx => iprop(∃ κ : ℕ, cellInv ER (Rd (xIn m)) κ (kcell ck))),
    bigSep_congr (s := Finset.univ) (fun (c : Dev nD) _ => bigSep_sep' Finset.univ (fun k : Sx => (atPos ER (kcell (c, k)) 0 ∅ 0 : sProp 𝕄)) (fun k => reached ER (kcell (c, k)) 0)),
    bigSep_sep', ← bigSep_univ_prod (fun ck : Dev nD × Sx => (reached ER (kcell ck) 0 : sProp 𝕄))]
  iintro ⟨HI, ⟨Hat, #HR⟩, Htok⟩
  ihave HK := (BI.bigSep_exists_pi Finset.univ (fun (ck : Dev nD × Sx) (κ : ℕ) => (cellInv ER (Rd (xIn m)) κ (kcell ck) : sProp 𝕄))) $$ HI
  icases HK with ⟨%K, #HI⟩
  iapply (with_records (R := records (xIn m) K) (Φ := dealt) fun c _ => show iprop(records (xIn m) K ∗ dealt c) ⊢ G' m c from by
    unfold G'
    iintro ⟨HR, Hd⟩
    iexists K
    isplitl [HR]; · iexact HR
    iapply (dealt_lin (F := F) c); iexact Hd)
  isplitr
  · unfold records; isplitl; · iexact HI
    iexact HR
  iapply (toks_dealt (F := F))
  rw [bigSep_sep']
  isplitl [Hat]; · iexact Hat
  iexact Htok

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- Barrier cells are told apart by their device. -/
theorem bar_iff {a b : Dev nD} : (barCell a = barCell b) ↔ a = b :=
  ⟨fun h => congrArg (fun g : GSem nD τ sig => g.1.1) h, fun h => h ▸ rfl⟩

/-- Copy cells are told apart by device, row and chunk. -/
theorem d_iff {a b : Dev nD} {k l : Fin 6} {n n' : Fin 16} : (dCell a k n = dCell b l n') ↔ a = b ∧ (k, n) = (l, n') :=
  ⟨fun h => ⟨congrArg (fun g : GSem nD τ sig => g.1.1) h, osem_inj (congrArg Prod.snd h)⟩, fun ⟨h, h'⟩ => by
    obtain ⟨h1, h2⟩ := Prod.mk.inj h'; rw [h, h1, h2]⟩

/-- What a list of steps pays a cell is the sum of what its steps pay it. -/
theorem dues_sum (d : Dev nD) (g : GSem nD τ sig) (l : List (Kind × Fin 16)) :
    dues d l g () = (l.map fun a => due d a g ()).sum := by
  induction l with
  | nil => rfl
  | cons a l ih =>
    show (dues d l + due d a) g () = _
    rw [Pi.add_apply, Finsupp.add_apply, ih, List.map_cons, List.sum_cons, Nat.add_comm]

/-- No step pays a barrier. -/
theorem due_bar (d c : Dev nD) (a : Kind × Fin 16) : due d a (barCell c) () = 0 := by
  obtain ⟨k, n⟩ := a
  cases k <;> first
    | rfl
    | exact (tallyAt_apply ..).trans (if_neg fun h => osem_ne_bar _ (congrArg Prod.snd h.1).symm)

/-- The partner's send of chunk `n`, and nothing else, pays the receive of chunk `n`. -/
theorem due_y (d c : Dev nD) (n : Fin 16) (a : Kind × Fin 16) :
    due d a (dCell c 1 n) () = if d = yp c then (if a = (.ys, n) then amt 1 else 0) else 0 := by
  obtain ⟨k, n'⟩ := a
  have hk (k' : Kind) (h : k' ≠ .ys) : (0 : ℕ) = if d = yp c then (if ((k', n') : Kind × Fin 16) = (.ys, n) then amt 1 else 0) else 0 := by
    rw [if_neg (c := ((k', n') : Kind × Fin 16) = (.ys, n)) (fun e => h (congrArg Prod.fst e)), ite_self]
  cases k
  case ys =>
    refine (tallyAt_apply ..).trans ?_
    by_cases h : d = yp c
    · subst h
      rw [if_pos rfl]
      by_cases hn : n' = n
      · subst hn; rw [if_pos ⟨by rw [yp_yp], rfl⟩, if_pos rfl]
      · rw [if_neg (fun e => hn (congrArg Prod.snd (d_iff.mp e.1).2).symm), if_neg (fun e => hn (congrArg Prod.snd e))]
    · rw [if_neg h, if_neg]
      rintro ⟨e, -⟩
      exact h (by rw [(d_iff.mp e).1, yp_yp])
  case yr =>
    refine Eq.trans ?_ (hk .yr (by decide))
    exact (tallyAt_apply ..).trans (if_neg fun e => absurd (show (1 : Fin 6) = 3 from congrArg Prod.fst (d_iff.mp e.1).2) (by decide))
  all_goals exact hk _ (by decide)

/-- The neighbour's passing on of chunk `n`, and nothing else, pays the second receive of chunk `n`. -/
theorem due_x (d c : Dev nD) (n : Fin 16) (a : Kind × Fin 16) :
    due d a (dCell c 3 n) () = if d = xp c then (if a = (.yr, n) then amt 3 else 0) else 0 := by
  obtain ⟨k, n'⟩ := a
  have hk (k' : Kind) (h : k' ≠ .yr) : (0 : ℕ) = if d = xp c then (if ((k', n') : Kind × Fin 16) = (.yr, n) then amt 3 else 0) else 0 := by
    rw [if_neg (c := ((k', n') : Kind × Fin 16) = (.yr, n)) (fun e => h (congrArg Prod.fst e)), ite_self]
  cases k
  case yr =>
    refine (tallyAt_apply ..).trans ?_
    by_cases h : d = xp c
    · subst h
      rw [if_pos rfl]
      by_cases hn : n' = n
      · subst hn; rw [if_pos ⟨by rw [xp_xp], rfl⟩, if_pos rfl]
      · rw [if_neg (fun e => hn (congrArg Prod.snd (d_iff.mp e.1).2).symm), if_neg (fun e => hn (congrArg Prod.snd e))]
    · rw [if_neg h, if_neg]
      rintro ⟨e, -⟩
      exact h (by rw [(d_iff.mp e).1, xp_xp])
  case ys =>
    refine Eq.trans ?_ (hk .ys (by decide))
    exact (tallyAt_apply ..).trans (if_neg fun e => absurd (show (3 : Fin 6) = 1 from congrArg Prod.fst (d_iff.mp e.1).2) (by decide))
  all_goals exact hk _ (by decide)

/-- A sum that only one kind of entry adds to. -/
theorem sum_one (x : Kind × Fin 16) (v : ℕ) (l : List (Kind × Fin 16)) :
    (l.map fun a => if a = x then v else 0).sum = l.count x * v := by
  induction l with
  | nil => simp
  | cons a l ih =>
    rw [List.map_cons, List.sum_cons, ih, List.count_cons]
    by_cases h : a = x
    · simp [h, Nat.add_mul, Nat.add_comm]
    · simp [h]

/-- Each chunk is sent once. -/
theorem count_ys (n : Fin 16) : steps.count (Kind.ys, n) = 1 := by revert n; decide +kernel

/-- Each chunk is passed on once. -/
theorem count_yr (n : Fin 16) : steps.count (Kind.yr, n) = 1 := by revert n; decide +kernel

/-- The steps pay no barrier. -/
theorem dues_bar (d c : Dev nD) : dues d steps (barCell c) () = 0 := by
  rw [dues_sum]
  simp only [due_bar]
  simp

/-- What the steps of a device pay the receive of chunk `n` of another. -/
theorem dues_y (d c : Dev nD) (n : Fin 16) : dues d steps (dCell c 1 n) () = if d = yp c then amt 1 else 0 := by
  rw [dues_sum]
  simp only [due_y]
  by_cases h : d = yp c
  · simp only [if_pos h]; rw [sum_one, count_ys, Nat.one_mul]
  · simp only [if_neg h]; simp

/-- What the steps of a device pay the second receive of chunk `n` of another. -/
theorem dues_x (d c : Dev nD) (n : Fin 16) : dues d steps (dCell c 3 n) () = if d = xp c then amt 3 else 0 := by
  rw [dues_sum]
  simp only [due_x]
  by_cases h : d = xp c
  · simp only [if_pos h]; rw [sum_one, count_yr, Nat.one_mul]
  · simp only [if_neg h]; simp

/-- A device owes one signal to the barrier of each of its two partners. -/
theorem owed_bar (d c : Dev nD) : O₀ d (barCell c) () = (if d = xp c then 1 else 0) + (if d = yp c then 1 else 0) := by
  unfold O₀ O₁
  rw [Pi.add_apply, Finsupp.add_apply, Pi.add_apply, Finsupp.add_apply, dues_bar, tallyAt_apply, tallyAt_apply, Nat.zero_add]
  congr 1
  · by_cases h : d = xp c
    · subst h; rw [xp_xp, if_pos ⟨rfl, rfl⟩, if_pos rfl]
    · rw [if_neg (fun ⟨h1, _⟩ => h (by rw [bar_iff.mp h1, xp_xp])), if_neg h]
  · by_cases h : d = yp c
    · subst h; rw [yp_yp, if_pos ⟨rfl, rfl⟩, if_pos rfl]
    · rw [if_neg (fun ⟨h1, _⟩ => h (by rw [bar_iff.mp h1, yp_yp])), if_neg h]

/-- What a device owes a copy cell is what its steps pay it. -/
theorem owed_d (d c : Dev nD) (k : Fin 6) (n : Fin 16) : O₀ d (dCell c k n) () = dues d steps (dCell c k n) () := by
  unfold O₀ O₁
  rw [Pi.add_apply, Finsupp.add_apply, Pi.add_apply, Finsupp.add_apply,
    tallyAt_ne_cell (fun h => osem_ne_bar _ (congrArg Prod.snd h)), tallyAt_ne_cell (fun h => osem_ne_bar _ (congrArg Prod.snd h)),
    Finsupp.zero_apply, Nat.add_zero, Nat.add_zero]

/-- The launch lends a device the two signals of its barrier. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

/-- The launch lends a device the delivery of each chunk from its partner. -/
theorem launch_y (c : Dev nD) (n : Fin 16) :
    tallyOn (dCell c 1 n) (launchCredit (Pipeline.owing O₀) 0 (dCell c 1 n)) = (tallyAt (dCell c 1 n) () (amt 1) : CellTallies nD τ sig Unit) := by
  unfold tallyAt; refine congrArg _ (Finsupp.ext fun u => ?_); cases u
  rw [Pipeline.launchCredit_owing, Finsupp.single_eq_same, Finset.sum_congr rfl fun d _ => (owed_d d c 1 n).trans (dues_y d c n),
    Finset.sum_ite_eq' Finset.univ (yp c) fun _ => amt 1, if_pos (Finset.mem_univ _)]

/-- The launch lends a device the delivery of each chunk passed on to it. -/
theorem launch_x (c : Dev nD) (n : Fin 16) :
    tallyOn (dCell c 3 n) (launchCredit (Pipeline.owing O₀) 0 (dCell c 3 n)) = (tallyAt (dCell c 3 n) () (amt 3) : CellTallies nD τ sig Unit) := by
  unfold tallyAt; refine congrArg _ (Finsupp.ext fun u => ?_); cases u
  rw [Pipeline.launchCredit_owing, Finsupp.single_eq_same, Finset.sum_congr rfl fun d _ => (owed_d d c 3 n).trans (dues_x d c n),
    Finset.sum_ite_eq' Finset.univ (xp c) fun _ => amt 3, if_pos (Finset.mem_univ _)]

/-- The credit of the launch for one cell of the device. -/
def credOf (c : Dev nD) (k : Sx) : sProp 𝕄 :=
  cred (tallyOn (kcell (c, k)) (launchCredit (Pipeline.owing O₀) 0 (kcell (c, k))))

/-- The credit of the launch, semaphore by semaphore. -/
theorem own_creds (c : Dev nD) : (Pipeline.launchCred O₀ c : sProp 𝕄) ⊢ bigSep Finset.univ (credOf c) := by
  unfold Pipeline.launchCred
  exact (BI.bigSep_subset (Finset.subset_univ (Finset.univ.map ⟨csem, csem_inj⟩))).trans
    (Entails.of_eq (bigSep_map _))

/-- The credit of the launch, row by row. -/
theorem creds_split (c : Dev nD) : bigSep Finset.univ (credOf (F := F) c) = iprop(credOf c (.inl ()) ∗
    (all fun n => credOf c (.inr (0, n))) ∗ (all fun n => credOf c (.inr (1, n))) ∗ (all fun n => credOf c (.inr (2, n)))
    ∗ (all fun n => credOf c (.inr (3, n))) ∗ (all fun n => credOf c (.inr (4, n))) ∗ all fun n => credOf c (.inr (5, n))) := by
  rw [univ_sum, over_unit, all_rows]

/-- The credit of the launch holds what the partners owe the device. -/
theorem creds (c : Dev nD) : (Pipeline.launchCred O₀ c : sProp 𝕄) ⊢ lent c := by
  unfold lent
  iintro H
  ihave H := (own_creds (F := F) c) $$ H
  ihave H := (Entails.of_eq (creds_split (F := F) c)) $$ H
  icases H with ⟨Hb, -, H1, -, H3, -⟩
  isplitl [Hb]
  · iapply (show credOf (F := F) c (.inl ()) ⊢ _ from Entails.of_eq (congrArg cred (launch_bar c))); iexact Hb
  isplitl [H1]
  · iapply (show (all fun n => credOf (F := F) c (.inr (1, n))) ⊢ _ from Entails.of_eq (bigSep_congr fun n _ => congrArg cred (launch_y c n))); iexact H1
  iapply (show (all fun n => credOf (F := F) c (.inr (3, n))) ⊢ _ from Entails.of_eq (bigSep_congr fun n _ => congrArg cred (launch_x c n))); iexact H3

/-! ## The run -/

/-- What the launch gives a device outside the region is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hout
  · iempintro

/-- With the scratch buffers of the region, that is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What the device hands on after the region: the barrier semaphore and its result. -/
def handed (c : Dev nD) : sProp 𝕄 :=
  iprop(unscopedSems0 c ∗ bigSep Finset.univ fun _ : Unit => (((c : Thread nD τ).loc main_v1) ↦{fullShare} outAt (xIn m) c))

/-- What the body ends with returns the scratch buffers and semaphores and keeps the result. -/
theorem phi1_exit (c : Dev nD) :
    (dats m ρ 0 c).Φ (Fin.last cfg0.N) ⊢ iprop(handed m c ∗ Pipeline.ownSems0 osem c ∗ Pipeline.scopedRest cfg0.spec c) := by
  rw [show (dats m ρ 0 c).Φ (Fin.last cfg0.N) = done (xIn m) c from rfl, scopedRest0_eq, ownSems0_eq]
  unfold done scratch handed
  rw [unscopedSems0_eq, over_unit]
  iintro ⟨Hout, Hr, Hz, Hs⟩
  isplitl [Hz Hout]
  · isplitl [Hz]; · iexact Hz
    iexact Hout
  isplitl [Hs]; · iexact Hs
  iexact Hr

/-- The waits of the staging are always allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read of the final state on one device. -/
def Reads (c : Dev nD) (s : MemSt nD τ sig (Elt F)) : Prop :=
  (∀ sm : SemLoc sig, sm.isScoped .tc = false → s.sem ((c.tc : Thread nD τ), sm) = 0)
    ∧ s.mem ((c : Thread nD τ).loc main_v1) = outAt (xIn m) c

/-- The final memory agrees with what a device kept. -/
theorem handed_read (c : Dev nD) (s' : Phys nD τ sig (Elt F)) :
    iprop(handed m c ∗ emp ∗ SI s') ⊢ |={Set.univ}=> (iprop(⌜Reads m c s'.mem⌝ ∗ SI s') : sProp 𝕄) := by
  unfold handed
  iintro ⟨⟨Hu, Hout⟩, -, HSI⟩
  ihave H := (pointsTo_read_all (Finset.univ : Finset Unit) (fun _ => (c : Thread nD τ).loc main_v1)
    (fun _ => outAt (xIn m) c) s') $$ [Hout HSI]
  · isplitl [Hout]; · iexact Hout
    iexact HSI
  icases H with ⟨%hv, HSI⟩
  imod (Pipeline.unscopedSems0_read (X := unscopedSems0 c) (c := c) fupd_intro s') $$ [Hu HSI] with ⟨%hz, HSI⟩
  · isplitl [Hu] <;> iassumption
  imodintro
  isplitr
  · ipureintro; exact ⟨hz, hv () (Finset.mem_univ _)⟩
  iexact HSI

/-- What the run ends with. -/
def Ends (r : PUnit × MemSt nD τ sig (Elt F)) : Prop :=
  (∀ c : Dev nD, r.2.mem ((c : Thread nD τ).loc main_v1) = outAt (xIn m) c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
/-- On the mesh of four devices, for any floats, from any memory in which the permutation is the swap on
every device: every fair execution ends, with the rounded block of the partner in every device's result,
the arguments as they were, and every semaphore at zero. -/
theorem run_main (hs : Swaps m) : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ hs c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := handed m) (Z := fun _ => iprop(emp))
    (hX := start_intro m ρ) (hin := phi0_intro m ρ) (hout := phi1_exit m ρ)
    (QY := Reads m) (hY := handed_read m)
    (hQ := fun _ h hz => ⟨fun c => ⟨(h c).2.2.2,
        ((h c).1 (1 : Fin 2)).trans ((dats (F := F) m ρ 0 c).arrAt_in (1 : Fin 2) rfl _),
        ((h c).1 (0 : Fin 2)).trans ((dats (F := F) m ρ 0 c).arrAt_in (0 : Fin 2) rfl _)⟩,
      sem_eq_zero hz fun c => (h c).2.2.1⟩)

end Cert.KernelIdeal.Swap
-- ==== Proof.Value.lean ====
module

public import proofs.«01_k».proof.Defs
public import proofs.«01_k».proof.Proof.Launch
public import proofs.«01_k».proof.Proof.Gen.ReferenceIdeal
public import proofs.«01_k».proof.Proof.Gen.ReferenceIdeal.Run

/-! The value: what the precondition says, what the reference computes, and why the two agree. -/

@[expose] public section

noncomputable section

namespace Cert.KernelIdeal.Swap

open Idealize.ShloMosaic
open Idealize.ShloMosaic.TcCoe
open Idealize.SL.Sem
open Cert.KernelIdeal.Gen

/-! ## What the precondition says -/

/-- The shape conditions the precondition takes on the device's blocks. -/
theorem preFacts : Cert.Pre_is_swap_Kernel.Facts := ⟨by decide, by decide, by decide⟩

/-- The shape conditions the precondition takes on the whole arrays. -/
theorem preFactsWhole : Cert.Pre_is_swap_ReferenceIdeal.Facts := ⟨by decide, by decide, by decide⟩

/-- A conjunction of two comparisons is one only when both compared words are equal. -/
theorem both_eq {a b c d : BitVec 32} (h : IntOp.andi (IntOp.cmpi .eq a b) (IntOp.cmpi .eq c d) = 1#1) : a = b ∧ c = d := by
  have hb : ∀ x y : BitVec 32, IntOp.cmpi .eq x y = BitVec.ofBool (x == y) := fun _ _ => rfl
  rw [hb, hb] at h
  cases e1 : (a == b) <;> cases e2 : (c == d) <;> rw [e1, e2] at h
  · exact absurd h (by decide)
  · exact absurd h (by decide)
  · exact absurd h (by decide)
  · exact ⟨beq_iff_eq.mp e1, beq_iff_eq.mp e2⟩

/-- A pair of words is the exchanging permutation when its entries are one and zero. -/
theorem eq_swapPi (p : IVec S2 32) (h0 : p (ix1 (0 : Fin 2)) = 1#32) (h1 : p (ix1 (1 : Fin 2)) = 0#32) : p = swapPi := by
  funext i
  have hi : i = ix1 (i 0 : Fin 2) := by
    funext a
    match a with
    | ⟨0, _⟩ => rfl
  rw [hi]
  have : ∀ k : Fin 2, p (ix1 k) = BitVec.ofNat 32 (1 - k.val) := by
    intro k
    match k with
    | ⟨0, _⟩ => exact h0
    | ⟨1, _⟩ => exact h1
  exact this (i 0)

/-- A number below one is zero. -/
theorem only_zero (k : Fin 1) : k.val = 0 := by omega

/-- The precondition on a device's blocks says its copy of the permutation is the exchanging one. -/
theorem pre_swapPi {F : FTy → Type} [FloatOps F] [Cert.Pre_is_swap_Kernel.Facts] (a : FVec F S1x2048x1024 .f32) (p : IVec S2 32)
    (h : Cert.Pre_is_swap_Kernel.fn (F := F) a p = fun _ => 1#1) : p = swapPi := by
  have h' := both_eq (congrFun h (fun b => b.elim0))
  refine eq_swapPi p ((congrArg p ?_).trans h'.1) ((congrArg p ?_).trans h'.2)
  · funext b
    match b with
    | ⟨0, _⟩ => exact Fin.ext (congrArg (0 + ·) (only_zero _).symm)
  · funext b
    match b with
    | ⟨0, _⟩ => exact Fin.ext (congrArg (1 + ·) (only_zero _).symm)

/-! ## What the reference computes -/

/-- The order that sorts the exchanging permutation is the exchanging permutation. -/
theorem argsort_swap :
    (Host.sort2 Cert.ReferenceIdeal.S2 0 Cert.ReferenceIdeal.comparator_i32_i32_d0 swapPi (iotaInDim Cert.ReferenceIdeal.S2 32 0)).2
      = swapPi := by
  decide

/-- The exchanging permutation has no negative entry, so the reference leaves its indices as they are. -/
theorem wrap_swap [Cert.ReferenceIdeal.Facts] :
    select (cmpi .slt swapPi (broadcastInDim Cert.ReferenceIdeal.S2 ![] Cert.ReferenceIdeal.Facts₀.bcast_S_S2 (constantI Cert.ReferenceIdeal.S_ 32 0#32)))
        (addi swapPi (broadcastInDim Cert.ReferenceIdeal.S2 ![] Cert.ReferenceIdeal.Facts₀.bcast_S_S2 (constantI Cert.ReferenceIdeal.S_ 32 2#32))) swapPi
      = swapPi := by
  funext i
  have : ∀ k : Fin 2, Scalar.select (IntOp.cmpi .slt (BitVec.ofNat 32 (1 - k.val)) 0#32)
      (IntOp.addi (BitVec.ofNat 32 (1 - k.val)) 2#32) (BitVec.ofNat 32 (1 - k.val)) = BitVec.ofNat 32 (1 - k.val) := by decide
  exact this (i 0)

/-- The result of the reference: the two blocks of `x`, exchanged. -/
def flip {α : Type} (x : Cert.ReferenceIdeal.S2x2048x1024.Idx → α) : Cert.ReferenceIdeal.S2x2048x1024.Idx → α := fun i =>
  x (ix3 (⟨1 - (i 0).val, by omega⟩ : Fin 2) (i 1 : Fin 2048) (i 2 : Fin 1024))

/-- Gathering rows along the exchanging permutation exchanges the two blocks. -/
theorem gather_swap [Cert.ReferenceIdeal.Facts] {α : Type} (x : Cert.ReferenceIdeal.S2x2048x1024.Idx → α) :
    Host.gather Cert.ReferenceIdeal.gather_S2x2048x1024_S2x1_S2x2048x1024_12_0_n_n_0_1_120481024 x
        (broadcastInDim Cert.ReferenceIdeal.S2x1 ![0] Cert.ReferenceIdeal.Facts₀.bcast_S2_S2x1_0 swapPi)
      = flip x := by
  funext i
  unfold Host.gather flip
  congr 1
  funext a
  refine Fin.ext ?_
  match a with
  | ⟨0, _⟩ =>
    have : ∀ k : Fin 2, min (BitVec.ofNat 32 (1 - k.val)).toInt.toNat (2 - 1) + 0 + 0 = 1 - k.val := by decide
    exact this (i 0)
  | ⟨1, _⟩ => show 0 + 0 + (i 1).val = (i 1).val; omega
  | ⟨2, _⟩ => show 0 + 0 + (i 2).val = (i 2).val; omega

/-! ## Why the two agree -/

/-- The device a row of the result comes from holds the other block of `x`. -/
theorem src_block (c : Dev nD) (r : Nat) : (src c r).val % 2 = 1 - c.val % 2 := by
  have h1 : ∀ d : Dev nD, (yp d).val % 2 = 1 - d.val % 2 := by decide
  have h2 : ∀ d : Dev nD, (yp (xp d)).val % 2 = 1 - d.val % 2 := by decide
  unfold src; split
  · exact h1 c
  · exact h2 c

/-- In exact arithmetic a value is unchanged by the rounding on its way. -/
theorem thru_ideal (a : Elt Ideal .f32) : thru a = a := rfl

/-- The block of an array that a device holds, read at an index. -/
theorem block_read {α : Type} (v : Cert.ReferenceIdeal.S2x2048x1024.Idx → α) (c : Dev nD) (i : S1x2048x1024.Idx) :
    (Layout.blockN ⟨3, ![1, 2048, 1024]⟩ ⟨3, ![2, 2048, 1024]⟩ (Layout.meshBlock [2, 2] ![[1], [], []] c) v) i
      = v (ix3 (⟨c.val % 2, by omega⟩ : Fin 2) (i 1 : Fin 2048) (i 2 : Fin 1024)) := by
  rw [Layout.blockN_apply]
  congr 1
  funext a
  refine Fin.ext ?_
  rw [Layout.TilesN.idx_val]
  match a with
  | ⟨0, _⟩ =>
    have h1 : ∀ d : Dev nD, Layout.meshLin [2, 2] d.val [1] = d.val % 2 := by decide
    have h0 := only_zero (i 0)
    show Layout.meshLin [2, 2] c.val [1] * 1 + (i 0).val = c.val % 2
    rw [h1, h0]; omega
  | ⟨1, _⟩ => show 0 * 2048 + (i 1).val = (i 1).val; omega
  | ⟨2, _⟩ => show 0 * 1024 + (i 2).val = (i 2).val; omega

/-- When every device holds its block of `x`, what it ends with is its block of the exchanged `x`. -/
theorem out_block (X : Dev nD → Vec Ideal S1x2048x1024 .f32) (x : Cert.ReferenceIdeal.S2x2048x1024.Idx → Elt Ideal .f32)
    (h : ∀ d : Dev nD, X d = Layout.blockN ⟨3, ![1, 2048, 1024]⟩ ⟨3, ![2, 2048, 1024]⟩ (Layout.meshBlock [2, 2] ![[1], [], []] d) x)
    (c : Dev nD) :
    outAt X c = Layout.blockN ⟨3, ![1, 2048, 1024]⟩ ⟨3, ![2, 2048, 1024]⟩ (Layout.meshBlock [2, 2] ![[1], [], []] c) (flip x) := by
  funext i
  rw [block_read]
  unfold outAt flip
  rw [thru_ideal, h, block_read]
  congr 1
  funext a
  refine Fin.ext ?_
  match a with
  | ⟨0, _⟩ => exact src_block c (i 1).val
  | ⟨1, _⟩ => rfl
  | ⟨2, _⟩ => rfl

end Cert.KernelIdeal.Swap

end
-- ==== Proof.Keep.lean ====
module

public import proofs.«01_k».proof.Proof.Device
public import Idealize.ShloMosaic.Lib.Transfers
public import Idealize.ShloMosaic.Lib.Pipeline.KitQuiescent

/-! The kernel for the permutation that keeps both blocks in place: each device copies its own block, and no device
    hears from another. -/

@[expose] public section

noncomputable section

namespace Cert.KernelIdeal.Keep

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen
open Cert.KernelIdeal.Swap (piM xM outM xIn r1 read_win0 read_win1)

variable {F : FTy → Type} [FloatOps F]

/-- The proof's own resources: those of the launch, and the counters of the copies in flight. -/
abbrev UK : Type := UR sig nD τ × Counters

local notation "𝕄" => MT nD τ sig Unit (Elt F) ℕ UK ℕ

/-- Where the launch's resources lie. -/
abbrev EP : Emb (UR sig nD τ) (MT nD τ sig Unit (Elt F) ℕ UK ℕ) := embL

/-- Where the counters lie. -/
abbrev EC : UEmb Counters (MT nD τ sig Unit (Elt F) ℕ UK ℕ) := countersEmb

/-- No loop of the program needs a variant. -/
abbrev 𝒱₀ : Variants := Variants.none

/-- The table that sends each of the two positions to itself. -/
def idPi : S2.Idx → BitVec 32 := fun i => BitVec.ofNat 32 (i 0).val

/-- The position of a device along the second axis, as a word. -/
def own (d : Dev nD) : BitVec 32 := BitVec.ofNat 32 (d.val % 2)

variable (m : (ℓ : Loc nD τ sig) → Buf (Elt F) ℓ) (ρ : Dev nD → PrngReg) (c : Dev nD)

/-- The second branch is not taken. -/
theorem own_cond (d : Dev nD) : ¬ k0_cond2 d (own d) = 1#1 := by revert d; decide +kernel

/-- So what that branch would ask of the table's word is granted. -/
theorem own_chk (d : Dev nD) : k0_chk1 d (own d) := by
  have h := own_cond d
  exact ⟨fun a => absurd a h, fun a => absurd a h, fun a => absurd a h, fun a => absurd a h, fun a => absurd a h,
    fun a => absurd a h, fun a => absurd a h, fun a => absurd a h, fun a => absurd a h, fun a => absurd a h,
    fun a => absurd a h, fun a => absurd a h, fun a => absurd a h, fun a => absurd a h, fun a => absurd a h,
    fun a => absurd a h, fun a => absurd a h⟩

/-- The first branch is taken. -/
theorem same (c : Dev nD) : Scalar.cmpi .ne (Scalar.extui (Scalar.cmpi .eq (own c)
    (Scalar.remsi (Scalar.divsi (Dev.word c) 1#32) 2#32))) 0#32 = 1#1 := by revert c; decide +kernel

/-- The word a device reads from the table is its own position. -/
theorem read_pi (c : Dev nD) : View.read (Elt F) (piM.access (r1 c)) idPi
    (Shape.Idx.first (numel1_S1.symm ▸ Nat.one_pos)) = own c := by
  show idPi _ = _
  revert c; decide +kernel

/-- A program on device `c` runs to its end with `Q`. -/
abbrev WP (c : Dev nD) (p : Prog (TpuEff nD τ sig (Elt F) Λ₀ .tc) PUnit) (Q : PUnit.{1} → sProp 𝕄) : sProp 𝕄 :=
  wp frame (wpE (defs₀ (F := F)) 𝒱₀ (c : Thread nD τ) none) Set.univ p Q

/-- The table in scalar memory. -/
abbrev piP (c : Dev nD) : sProp 𝕄 := ((c : Thread nD τ).loc cc0_stg0_0) ↦{fullShare} (idPi : Buf (Elt F) ((c : Thread nD τ).loc cc0_stg0_0))

/-- The body of the kernel, in full. -/
abbrev body : Prog (TpuEff nD τ sig (Elt F) Λ₀ .tc) PUnit :=
  cc0_body (F := F) piM (Memref.isWhole_whole _) xM (Memref.isWhole_whole _) outM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10

/-- The device copies its block into its result and waits for the copy. -/
theorem keep_wp (Q : PUnit.{1} → sProp 𝕄) (x : Buf (Elt F) ((c : Thread nD τ).loc cc0_stg1_0)) (f : Buf (Elt F) ((c : Thread nD τ).loc main_v1))
    (W : Waits sig Unit) :
    iprop(piP (F := F) c ∗ (((c : Thread nD τ).loc cc0_stg1_0) ↦{fullShare} x) ∗ (((c : Thread nD τ).loc main_v1) ↦{fullShare} f)
        ∗ semVal ((c : Thread nD τ), .dma cc0_scratch10.sem) 0 ∗ owes (c : Thread nD τ) 0 W
        ∗ ((piP c ∗ (((c : Thread nD τ).loc cc0_stg1_0) ↦{fullShare} x) ∗ (((c : Thread nD τ).loc main_v1) ↦{fullShare} (x : S1x2048x1024.Idx → Elt F .f32))
            ∗ semVal ((c : Thread nD τ), .dma cc0_scratch10.sem) 0 ∗ ∃ W', owes (c : Thread nD τ) 0 W') -∗ Q ⟨⟩))
      ⊢ WP c (body (F := F)) Q := by
  unfold body
  rw [cc0_body_eq_skeleton]
  unfold cc0_body_skel
  simp only [smemLoad, smemLoadElt, Prog.lift, Prog.bind_op, Prog.bind_ret, Prog.pure_eq_ret, Prog.bind_assoc, WP, wp_deviceId]
  iintro ⟨Hpi, Hk⟩
  iapply (wp_load_rect 𝒱₀ (c : Thread nD τ) none Set.univ (m := piM) (r := r1 c) (Finset.subset_univ _)) $$ Hpi; iintro Hpi
  have hv := read_pi (F := F) c
  generalize View.read (Elt F) (piM.access (r1 c)) idPi (Shape.Idx.first _) = w at hv ⊢
  subst hv
  simp only [wp_assume_of _ _ _ _ (d := k0_chk1.dec _ _) (own_chk c)]
  rw [if_pos (same c), dif_neg (own_cond c)]
  icases Hk with ⟨Hx, Hout, Hs, HO, Hk⟩
  have hset : xM.view.set = Finset.univ := View.set_whole _
  have hw : outM.view.write (Elt F) f (ReadAs.same.apply (xM.view.read (Elt F) x)) Finset.univ = x := View.write_whole_univ (Val := Elt F) main_v1 f x
  iapply (wp_dmaLocal EC 𝒱₀ (c : Thread nD τ) none (src := xM) (dst := outM) (q := fullShare) (fs := x) (fd := f) (Sd := Finset.univ)
    () outM.view.dmaCredit rfl (outM.view.dmaCredit_pos (by decide)) (Finset.subset_univ _)) $$ [Hx Hout Hs]
  · isplitl [Hx]; · rw [hset]; iexact Hx
    isplitl [Hout] <;> iassumption
  iintro Hf
  iapply (wp_waitLocal EC 𝒱₀ (c : Thread nD τ) none () (N := outM.view.dmaCredit) rfl) $$ [Hf HO]
  · isplitl [Hf] <;> iassumption
  iintro ⟨⟨Hout, Hx⟩, Hs, HO⟩
  rw [wp_ret, hset, hw]
  imodintro
  iapply Hk
  isplitl [Hpi]; · iexact Hpi
  isplitl [Hx]; · iexact Hx
  isplitl [Hout]; · iexact Hout
  isplitl [Hs]; · iexact Hs
  iexists _; iexact HO

/-! ## The proof data of the launch -/

/-- On every device the permutation keeps both positions. -/
def Keeps : Prop := ∀ c : Dev nD, m ((c : Thread nD τ).loc main_arg1) = (idPi : Buf (Elt F) ((c : Thread nD τ).loc main_arg1))

/-- What the body of device `c` holds beside its staged arguments: its result at `f`, the counter of its copy at zero,
    and the buffers it does not use. -/
def held (f : Buf (Elt F) ((c : Thread nD τ).loc main_v1)) : sProp 𝕄 :=
  iprop((((c : Thread nD τ).loc main_v1) ↦{fullShare} f) ∗ semVal ((c : Thread nD τ), .dma cc0_scratch10.sem) 0
    ∗ Pipeline.scopedRest (Ix := Unit) (Name := ℕ) (U := UK) (Lvl := ℕ) (Val := Elt F) spec0 c)

/-- What the launch is told of the kernel: it leaves its arguments alone, owes nothing, and turns the result at launch
    into a copy of the block. -/
def dats (_ : Fin 1) (c : Dev nD) : Dat τ (Elt F) Unit ℕ UK ℕ cfg0 c where
  A w := (Swap.s₀ m ρ).mem ((cfg0.win w).arr.view.loc (c : Thread nD τ))
  after w _ := match w with
    | ⟨0, _⟩ => idPi
    | ⟨1, _⟩ => xIn m c
  Φ t := match t with
    | ⟨0, _⟩ => held c (m ((c : Thread nD τ).loc main_v1))
    | ⟨_ + 1, _⟩ => held c (xIn m c : S1x2048x1024.Idx → Elt F .f32)
  q _ := fullShare
  owed _ := 0

/-- Holding a whole buffer's view at some contents is holding the buffer at them. -/
theorem owns_whole_eq (c : Dev nD) (b : Ref sig .tc) (Y : b.ty.Contents (Elt F)) :
    (owns (Ix := Unit) (Name := ℕ) (U := UK) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staged buffer at contents `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the launch hands the body. -/
def bodyPre (c : Dev nD) : sProp 𝕄 :=
  iprop(held c (m ((c : Thread nD τ).loc main_v1)) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it takes back. -/
def bodyPost (c : Dev nD) : sProp 𝕄 :=
  iprop(held c (xIn m c : S1x2048x1024.Idx → Elt F .f32) ∗ (dats m ρ 0 c).owesAt () t0_0.succ
    ∗ stg c cc0_stg0_0 idPi ∗ stg c cc0_stg1_0 (xIn m c))

/-- From what the launch hands the body to what it takes back. -/
theorem sound_body (hs : Keeps m) (c : Dev nD) :
    bodyPre m ρ c ⊢ WP c (body (F := F)) (fun _ => bodyPost m ρ c) := by
  unfold bodyPre held
  iintro ⟨⟨Hout, Hs, Hr⟩, Ho, ⟨%d0, %g0, %hg0, Hpi⟩, ⟨%d1, %g1, %hg1, Hx⟩⟩
  have hp : g0 = (idPi : Buf (Elt F) ((c : Thread nD τ).loc cc0_stg0_0)) := by
    rw [hg0]; unfold Dat.before; rw [if_pos (Swap.fetch_0 t0_0)]
    exact (read_win0 (F := F) _).trans (hs c)
  subst hp
  have hx : g1 = xIn m c := by
    rw [hg1]; unfold Dat.before; rw [if_pos (Swap.fetch_1 t0_0)]
    exact read_win1 (F := F) _
  subst hx
  unfold Dat.owesAt Pipeline.owesWithin
  icases Ho with ⟨%W, %hW, HO⟩
  rw [show (dats m ρ 0 c).owed t0_0.castSucc = 0 from rfl]
  iapply (keep_wp c _ (xIn m c) (m ((c : Thread nD τ).loc main_v1)) W)
  isplitl [Hpi]; · iexact Hpi
  isplitl [Hx]; · iexact Hx
  isplitl [Hout]; · iexact Hout
  isplitl [Hs]; · iexact Hs
  isplitl [HO]; · iexact HO
  iintro ⟨Hpi, Hx, Hout, Hs, ⟨%W', HO⟩⟩
  unfold bodyPost held Dat.owesAt Pipeline.owesWithin
  rw [show (dats m ρ 0 c).owed t0_0.succ = 0 from rfl]
  isplitl [Hout Hs Hr]
  · isplitl [Hout]; · iexact Hout
    isplitl [Hs] <;> iassumption
  isplitl [HO]
  · iexists W'
    isplitr; · ipureintro; exact fun _ _ => Or.inl trivial
    iexact HO
  isplitl [Hpi]
  · iexists _; isplitr; · (ipureintro; rfl)
    iexact Hpi
  iexists _; isplitr; · (ipureintro; rfl)
  iexact Hx

/-- The body obligation of the launch, on device `c`. -/
theorem body_obligation (hs : Keeps m) (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ hs c

/-! ## The launch -/

/-- The only semaphore of its own that the kernel then uses. -/
abbrev osem : Unit → SemLoc sig := fun _ => .dma cc0_scratch10.sem

/-- It is scoped and no staging semaphore. -/
theorem ownSemFacts : Pipeline.OwnSemFacts cfg0.spec osem := by decide +kernel

/-- That semaphore at zero. -/
theorem ownSems0_eq (c : Dev nD) : (Pipeline.ownSems0 (Ix := Unit) (Name := ℕ) (U := UK) (Lvl := ℕ) (Val := Elt F) (τ := τ) osem c : sProp 𝕄)
    = semVal ((c : Thread nD τ), .dma cc0_scratch10.sem) 0 :=
  Pipeline.ownSems0_eq_of_list c osem [()] (by decide) (by decide)

/-- What the launch starts from. -/
def u₀ : UK := (initOf (Pipeline.cells cfgs cellOf_inj) (Pipeline.launchToks cfgs cellOf_inj), 1)

/-- What a device ends with: its result a copy of its block. -/
def Reads (c : Dev nD) (s : MemSt nD τ sig (Elt F)) : Prop :=
  s.mem ((c : Thread nD τ).loc main_v1) = (xIn m c : S1x2048x1024.Idx → Elt F .f32)

/-- How every run ends: on each device the result is its own block and the arguments are as they were, and every
    semaphore is at zero. -/
def Ends (r : PUnit × MemSt nD τ sig (Elt F)) : Prop :=
  (∀ c : Dev nD, r.2.mem ((c : Thread nD τ).loc main_v1) = (xIn m c : S1x2048x1024.Idx → Elt F .f32)
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

/-- Every run ends so. -/
theorem run_main (hs : Keeps m) : θ_run defs (onTc (τ := τ) (main (F := F))) (Swap.s₀ m ρ) (Ends m) :=
  Pipeline.θ_run_region_kit_quiescent cfgs (dats m ρ) () (0 : Fin 1) launch0 ownSemFacts EP defs₀ 𝒱₀ m ρ main
    (hbody := fun c => body_obligation m ρ hs c) (hshare := fun c => (dats m ρ 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      rw [show (bigSep Finset.univ fun _ : Dev nD => iprop(emp)) = (iprop(emp) : sProp 𝕄) from bigSep_emp_const _]; iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun c => iprop((((c : Thread nD τ).loc main_v1) ↦{fullShare} m ((c : Thread nD τ).loc main_v1))
      ∗ semVal ((c : Thread nD τ), .dma cc0_scratch10.sem) 0))
    (Y := fun c => ((c : Thread nD τ).loc main_v1) ↦{fullShare} (xIn m c : S1x2048x1024.Idx → Elt F .f32)) (Z := fun _ => iprop(emp))
    (hX := fun c => by
      rw [unscopedRest0_eq, ownSems0_eq]
      iintro ⟨Hout, Hs, -, -, -⟩
      imodintro
      isplitl
      · isplitl [Hout] <;> iassumption
      iempintro)
    (hin := fun c => by
      rw [show (dats m ρ 0 c).Φ 0 = held c (m ((c : Thread nD τ).loc main_v1)) from rfl]
      unfold held
      iintro ⟨⟨Hout, Hs⟩, Hr⟩
      isplitl [Hout]; · iexact Hout
      isplitl [Hs] <;> iassumption)
    (hout := fun c => by
      rw [show (dats m ρ 0 c).Φ (Fin.last cfg0.N) = held c (xIn m c : S1x2048x1024.Idx → Elt F .f32) from rfl, ownSems0_eq]
      unfold held
      exact .rfl)
    (QY := Reads m)
    (hY := fun c s' => by
      iintro ⟨Hout, -, HSI⟩
      ihave H := (pointsTo_read_all (Finset.univ : Finset Unit) (fun _ => (c : Thread nD τ).loc main_v1)
        (fun _ => (xIn m c : S1x2048x1024.Idx → Elt F .f32)) s') $$ [Hout HSI]
      · isplitl [Hout]; · (rw [bigSep_univ_of_subsingleton ()]; iexact Hout)
        iexact HSI
      icases H with ⟨%hv, HSI⟩
      imodintro
      isplitr; · (ipureintro; exact hv () (Finset.mem_univ _))
      iexact HSI)
    (hQ := fun _ h hz => ⟨fun c => ⟨(h c).2,
        ((h c).1 (1 : Fin 2)).trans ((dats (F := F) m ρ 0 c).arrAt_in (1 : Fin 2) rfl _),
        ((h c).1 (0 : Fin 2)).trans ((dats (F := F) m ρ 0 c).arrAt_in (0 : Fin 2) rfl _)⟩, hz⟩)

end Cert.KernelIdeal.Keep
-- ==== Proof.KeepValue.lean ====
module

public import proofs.«01_k».proof.Proof.Keep
public import proofs.«01_k».proof.Proof.Value

/-! The value for the permutation that keeps both blocks in place: what its precondition says, and what the reference
    computes then. -/

@[expose] public section

noncomputable section

namespace Cert.KernelIdeal.Keep

open Idealize.ShloMosaic
open Idealize.ShloMosaic.TcCoe
open Cert.KernelIdeal.Gen
open Cert.KernelIdeal.Swap (both_eq only_zero block_read)

/-- The shape conditions the precondition takes on the device's blocks. -/
theorem preFacts : Cert.Pre_is_identity_Kernel.Facts := ⟨by decide, by decide, by decide⟩

/-- The shape conditions the precondition takes on the whole arrays. -/
theorem preFactsWhole : Cert.Pre_is_identity_ReferenceIdeal.Facts := ⟨by decide, by decide, by decide⟩

/-- A pair of words is the keeping permutation when its entries are zero and one. -/
theorem eq_idPi (p : IVec S2 32) (h0 : p (ix1 (0 : Fin 2)) = 0#32) (h1 : p (ix1 (1 : Fin 2)) = 1#32) : p = idPi := by
  funext i
  have hi : i = ix1 (i 0 : Fin 2) := by
    funext a
    match a with
    | ⟨0, _⟩ => rfl
  rw [hi]
  have : ∀ k : Fin 2, p (ix1 k) = BitVec.ofNat 32 k.val := by
    intro k
    match k with
    | ⟨0, _⟩ => exact h0
    | ⟨1, _⟩ => exact h1
  exact this (i 0)

/-- The precondition on a device's blocks says its copy of the permutation is the keeping one. -/
theorem pre_idPi {F : FTy → Type} [FloatOps F] [Cert.Pre_is_identity_Kernel.Facts] (a : FVec F S1x2048x1024 .f32) (p : IVec S2 32)
    (h : Cert.Pre_is_identity_Kernel.fn (F := F) a p = fun _ => 1#1) : p = idPi := by
  have h' := both_eq (congrFun h (fun b => b.elim0))
  refine eq_idPi p ((congrArg p ?_).trans h'.1) ((congrArg p ?_).trans h'.2)
  · funext b
    match b with
    | ⟨0, _⟩ => exact Fin.ext (congrArg (0 + ·) (only_zero _).symm)
  · funext b
    match b with
    | ⟨0, _⟩ => exact Fin.ext (congrArg (1 + ·) (only_zero _).symm)

/-- The order that sorts the keeping permutation is the keeping permutation. -/
theorem argsort_keep :
    (Host.sort2 Cert.ReferenceIdeal.S2 0 Cert.ReferenceIdeal.comparator_i32_i32_d0 idPi (iotaInDim Cert.ReferenceIdeal.S2 32 0)).2
      = idPi := by
  decide

/-- The keeping permutation has no negative entry, so the reference leaves its indices as they are. -/
theorem wrap_keep [Cert.ReferenceIdeal.Facts] :
    select (cmpi .slt idPi (broadcastInDim Cert.ReferenceIdeal.S2 ![] Cert.ReferenceIdeal.Facts₀.bcast_S_S2 (constantI Cert.ReferenceIdeal.S_ 32 0#32)))
        (addi idPi (broadcastInDim Cert.ReferenceIdeal.S2 ![] Cert.ReferenceIdeal.Facts₀.bcast_S_S2 (constantI Cert.ReferenceIdeal.S_ 32 2#32))) idPi
      = idPi := by
  funext i
  have : ∀ k : Fin 2, Scalar.select (IntOp.cmpi .slt (BitVec.ofNat 32 k.val) 0#32)
      (IntOp.addi (BitVec.ofNat 32 k.val) 2#32) (BitVec.ofNat 32 k.val) = BitVec.ofNat 32 k.val := by decide
  exact this (i 0)

/-- Gathering rows along the keeping permutation changes nothing. -/
theorem gather_keep [Cert.ReferenceIdeal.Facts] {α : Type} (x : Cert.ReferenceIdeal.S2x2048x1024.Idx → α) :
    Host.gather Cert.ReferenceIdeal.gather_S2x2048x1024_S2x1_S2x2048x1024_12_0_n_n_0_1_120481024 x
        (broadcastInDim Cert.ReferenceIdeal.S2x1 ![0] Cert.ReferenceIdeal.Facts₀.bcast_S2_S2x1_0 idPi)
      = x := by
  funext i
  unfold Host.gather
  congr 1
  funext a
  refine Fin.ext ?_
  match a with
  | ⟨0, _⟩ =>
    have : ∀ k : Fin 2, min (BitVec.ofNat 32 k.val).toInt.toNat (2 - 1) + 0 + 0 = k.val := by decide
    exact this (i 0)
  | ⟨1, _⟩ => show 0 + 0 + (i 1).val = (i 1).val; omega
  | ⟨2, _⟩ => show 0 + 0 + (i 2).val = (i 2).val; omega

end Cert.KernelIdeal.Keep

end
-- ==== Proof.Same.lean ====
module

public import proofs.«01_k».proof.Proof.Gen.KernelIdeal
public import proofs.«01_k».proof.Proof.Gen.Kernel
public import proofs.«01_k».proof.Defs

/-! The program as it is compiled and the program read in exact arithmetic are one text: nothing was rewritten between
    the two. So at machine floats they are equal, part by part, and a run of one is a run of the other. -/

@[expose] public section

noncomputable section

namespace Cert.KernelIdeal.Swap

open Idealize.ShloMosaic

set_option maxHeartbeats 4000000 in
set_option maxRecDepth 65536 in
/-- The two bodies are the same. -/
theorem body_same :
    @Cert.Kernel.cc0_body Bits _ Cert.Kernel.Gen.facts = @Cert.KernelIdeal.cc0_body Bits _ Cert.KernelIdeal.Gen.facts := rfl

set_option maxHeartbeats 4000000 in
set_option maxRecDepth 65536 in
/-- The two body tables are the same. -/
theorem defs_same : Cert.Kernel.defs (F := Bits) = Cert.KernelIdeal.defs (F := Bits) := by
  unfold Cert.Kernel.defs Cert.KernelIdeal.defs
  refine congrArg (Pipeline.defs (Cert.Kernel.pcfgs (F := Bits))) ?_
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun
      (congrFun (congrFun (congrFun (congrFun (congrFun (congrFun (congrFun (congrFun (congrFun (congrFun body_same
        _) _) _) _) _) _) _) _) _) _) _) _) _) _) _) _) _) _) _) _) _

/-- The two main functions are the same. -/
theorem main_same : Cert.Kernel.main (F := Bits) = Cert.KernelIdeal.main (F := Bits) := rfl

end Cert.KernelIdeal.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.KeepValue
public import proofs.«01_k».proof.Proof.Same
public import Idealize.ShloMosaic.Adequacy
public import Idealize.ShloMosaic.Init

@[expose] public section

noncomputable section

namespace Cert.Proof

open Idealize.ShloMosaic Idealize.SL.Sem Cert.KernelIdeal Cert.KernelIdeal.Swap

/-- Under the precondition the program as it is compiled runs to its end on every device, leaves its arguments as they
    were, and every semaphore back at zero. -/
theorem kernel_frame : quiescent_Kernel (hKernel := Cert.Kernel.Gen.facts) (hPre_is_swap_Kernel := preFacts) := by
  intro m g hp
  rw [defs_same, main_same]
  exact (θ_run Cert.KernelIdeal.defs _ _).mono (fun _ h => ⟨fun c => ⟨(h.1 c).2.1, (h.1 c).2.2⟩, h.2⟩)
    (run_main (F := Bits) m g fun c => @pre_swapPi Bits _ preFacts _ _ (hp c))

/-- The same of the program in exact arithmetic. -/
theorem ideal_frame : quiescent_KernelIdeal (hKernelIdeal := Cert.KernelIdeal.Gen.facts) (hPre_is_swap_Kernel := preFacts) := fun m g hp =>
  (θ_run Cert.KernelIdeal.defs _ _).mono (fun _ h => ⟨fun c => ⟨(h.1 c).2.1, (h.1 c).2.2⟩, h.2⟩)
    (run_main (F := Ideal) m g fun c => @pre_swapPi Ideal _ preFacts _ _ (hp c))

/-- The reference runs to its end from any memory and leaves its arguments and its counters as they were. -/
theorem reference_frame : quiescent_ReferenceIdeal (hReferenceIdeal := Cert.ReferenceIdeal.Gen.facts) := fun m g _ =>
  (θ_run Cert.ReferenceIdeal.defs _ _).mono
    (fun r h => ⟨fun c => ⟨(h c).2.1, (h c).2.2⟩, sem_eq_zero_of_no_sems (by decide) r.2⟩) (Cert.ReferenceIdeal.Value.run m g)

/-- The exchanging permutation in, the exchanged blocks out: what each device ends with is its block of what the
    reference ends with. -/
theorem value : algebraic_KernelIdeal_ReferenceIdeal (hKernelIdeal := Cert.KernelIdeal.Gen.facts)
    (hReferenceIdeal := Cert.ReferenceIdeal.Gen.facts) (hPre_is_swap_Kernel := preFacts) := by
  intro m g m' g' hp hm
  have hs : Swaps m := fun c => @pre_swapPi Ideal _ preFacts _ _ (hp c)
  refine ⟨flip (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c).1.trans (out_block _ _ (fun d => (hm d).1) c), (h.1 c).2.1, (h.1 c).2.2⟩) (run_main (F := Ideal) m g hs)
  · have hpi : m' (((0 : Dev Cert.ReferenceIdeal.nD).tc : Thread Cert.ReferenceIdeal.nD Cert.ReferenceIdeal.τ).loc Cert.ReferenceIdeal.main_arg1) = swapPi :=
      ((hm 0).2).symm.trans (hs 0)
    refine (θ_run Cert.ReferenceIdeal.defs _ _).mono (fun _ h => ⟨(h 0).1.trans ?_, (h 0).2.1, (h 0).2.2⟩)
      (Cert.ReferenceIdeal.Value.run m' g')
    rw [hpi, argsort_swap, wrap_swap, gather_swap]

/-! ## The permutation that keeps both blocks in place -/

/-- The same of the program as it is compiled, under the other precondition. -/
theorem kernel_frame_keep : quiescent_Kernel_pre_is_identity_Kernel (hKernel := Cert.Kernel.Gen.facts)
    (hPre_is_identity_Kernel := Keep.preFacts) := by
  intro m g hp
  rw [defs_same, main_same]
  exact (θ_run Cert.KernelIdeal.defs _ _).mono (fun _ h => ⟨fun c => ⟨(h.1 c).2.1, (h.1 c).2.2⟩, h.2⟩)
    (Keep.run_main (F := Bits) m g fun c => @Keep.pre_idPi Bits _ Keep.preFacts _ _ (hp c))

/-- The same of the program in exact arithmetic. -/
theorem ideal_frame_keep : quiescent_KernelIdeal_pre_is_identity_Kernel (hKernelIdeal := Cert.KernelIdeal.Gen.facts)
    (hPre_is_identity_Kernel := Keep.preFacts) := fun m g hp =>
  (θ_run Cert.KernelIdeal.defs _ _).mono (fun _ h => ⟨fun c => ⟨(h.1 c).2.1, (h.1 c).2.2⟩, h.2⟩)
    (Keep.run_main (F := Ideal) m g fun c => @Keep.pre_idPi Ideal _ Keep.preFacts _ _ (hp c))

/-- The keeping permutation in, the blocks as they were out: what each device ends with is its block of what the
    reference ends with. -/
theorem value_keep : algebraic_KernelIdeal_ReferenceIdeal_pre_is_identity_Kernel (hKernelIdeal := Cert.KernelIdeal.Gen.facts)
    (hReferenceIdeal := Cert.ReferenceIdeal.Gen.facts) (hPre_is_identity_Kernel := Keep.preFacts) := by
  intro m g m' g' hp hm
  have hs : Keep.Keeps m := fun c => @Keep.pre_idPi Ideal _ Keep.preFacts _ _ (hp c)
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h.1 c).1.trans (hm c).1, (h.1 c).2.1, (h.1 c).2.2⟩) (Keep.run_main (F := Ideal) m g hs)
  · have hpi : m' (((0 : Dev Cert.ReferenceIdeal.nD).tc : Thread Cert.ReferenceIdeal.nD Cert.ReferenceIdeal.τ).loc Cert.ReferenceIdeal.main_arg1) = Keep.idPi :=
      ((hm 0).2).symm.trans (hs 0)
    refine (θ_run Cert.ReferenceIdeal.defs _ _).mono (fun _ h => ⟨(h 0).1.trans ?_, (h 0).2.1, (h 0).2.2⟩)
      (Cert.ReferenceIdeal.Value.run m' g')
    rw [hpi, Keep.argsort_keep, Keep.wrap_keep, Keep.gather_keep]

/-- Every claim holds. -/
theorem claim : Cert.Claim :=
  ⟨Cert.Kernel.Gen.facts, Cert.KernelIdeal.Gen.facts, Cert.ReferenceIdeal.Gen.facts, preFacts, Keep.preFacts, preFactsWhole,
    Keep.preFactsWhole, kernel_frame, kernel_frame_keep, ideal_frame, ideal_frame_keep, reference_frame,
    fun m g _ => reference_frame m g trivial, fun m g _ => reference_frame m g trivial, trivial, value, value_keep⟩

end Cert.Proof

end
